-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionIdeal_swapped_and_finite [hPre_swapped_and_finite : Cert.Pre_swapped_and_finite.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_swapped_and_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1))) = (fun _ => 1#1)

def Pre_RetentionReferenceIdeal (m : (ℓ : Loc Cert.RetentionReferenceIdeal.nD Cert.RetentionReferenceIdeal.τ Cert.RetentionReferenceIdeal.sig) → Buf (Elt Ideal) ℓ) : Prop :=
  True

def Pre_RetentionReferenceIdeal_swapped_and_finite [hPre_swapped_and_finite : Cert.Pre_swapped_and_finite.Facts] (m : (ℓ : Loc Cert.RetentionReferenceIdeal.nD Cert.RetentionReferenceIdeal.τ Cert.RetentionReferenceIdeal.sig) → Buf (Elt Ideal) ℓ) : Prop :=
  ∀ c : Dev Cert.RetentionReferenceIdeal.nD,
    (Cert.Pre_swapped_and_finite.fn (F := Ideal) (m ((c.tc : Thread Cert.RetentionReferenceIdeal.nD Cert.RetentionReferenceIdeal.τ).loc Cert.RetentionReferenceIdeal.main_arg0)) (m ((c.tc : Thread Cert.RetentionReferenceIdeal.nD Cert.RetentionReferenceIdeal.τ).loc Cert.RetentionReferenceIdeal.main_arg1))) = (fun _ => 1#1)

def Pre_Experts [hPre_names_experts : Cert.Pre_names_experts.Facts] (m : (ℓ : Loc Cert.Experts.nD Cert.Experts.τ Cert.Experts.sig) → Buf (Elt Bits) ℓ) : Prop :=
  ∀ c : Dev Cert.Experts.nD,
    (Cert.Pre_names_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_names_experts : Cert.Pre_names_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_names_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_names_experts [hPre_names_experts : Cert.Pre_names_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_names_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_InProjection (m : (ℓ : Loc Cert.InProjection.nD Cert.InProjection.τ Cert.InProjection.sig) → Buf (Elt Bits) ℓ) : Prop :=
  True

def Pre_InProjectionIdeal (m : (ℓ : Loc Cert.InProjectionIdeal.nD Cert.InProjectionIdeal.τ Cert.InProjectionIdeal.sig) → Buf (Elt Ideal) ℓ) : Prop :=
  True

def Pre_InProjectionReferenceIdeal (m : (ℓ : Loc Cert.InProjectionReferenceIdeal.nD Cert.InProjectionReferenceIdeal.τ Cert.InProjectionReferenceIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ r.2.sem = fun _ => 0)

def quiescent_RetentionIdeal_pre_swapped_and_finite [hRetentionIdeal : Cert.RetentionIdeal.Facts] [hPre_swapped_and_finite : Cert.Pre_swapped_and_finite.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_swapped_and_finite m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ r.2.sem = fun _ => 0)

def quiescent_RetentionReferenceIdeal [hRetentionReferenceIdeal : Cert.RetentionReferenceIdeal.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0)
      ∧ r.2.mem ((c.tc : Thread Cert.RetentionReferenceIdeal.nD Cert.RetentionReferenceIdeal.τ).loc Cert.RetentionReferenceIdeal.main_arg1) = m ((c.tc : Thread Cert.RetentionReferenceIdeal.nD Cert.RetentionReferenceIdeal.τ).loc Cert.RetentionReferenceIdeal.main_arg1))
      ∧ r.2.sem = fun _ => 0)

def quiescent_RetentionReferenceIdeal_pre_swapped_and_finite [hRetentionReferenceIdeal : Cert.RetentionReferenceIdeal.Facts] [hPre_swapped_and_finite : Cert.Pre_swapped_and_finite.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal_swapped_and_finite m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0)
      ∧ r.2.mem ((c.tc : Thread Cert.RetentionReferenceIdeal.nD Cert.RetentionReferenceIdeal.τ).loc Cert.RetentionReferenceIdeal.main_arg1) = m ((c.tc : Thread Cert.RetentionReferenceIdeal.nD Cert.RetentionReferenceIdeal.τ).loc Cert.RetentionReferenceIdeal.main_arg1))
      ∧ r.2.sem = fun _ => 0)

def quiescent_Experts [hExperts : Cert.Experts.Facts] [hPre_names_experts : Cert.Pre_names_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_names_experts : Cert.Pre_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_names_experts [hExpertsReferenceIdeal : Cert.ExpertsReferenceIdeal.Facts] [hPre_names_experts : Cert.Pre_names_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_names_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5))
      ∧ r.2.sem = fun _ => 0)

def quiescent_InProjection [hInProjection : Cert.InProjection.Facts] : Prop :=
  ∀ (m : (ℓ : Loc Cert.InProjection.nD Cert.InProjection.τ Cert.InProjection.sig) → Buf (Elt Bits) ℓ) (g : Dev Cert.InProjection.nD → PrngReg), Pre_InProjection m →
    θ_run (Cert.InProjection.defs (F := Bits)) (onTc (τ := Cert.InProjection.τ) (Cert.InProjection.main (F := Bits))) ⟨m, fun _ => 0, g⟩ (fun r => (∀ c : Dev Cert.InProjection.nD,
      r.2.mem ((c.tc : Thread Cert.InProjection.nD Cert.InProjection.τ).loc Cert.InProjection.main_arg0) = m ((c.tc : Thread Cert.InProjection.nD Cert.InProjection.τ).loc Cert.InProjection.main_arg0)
      ∧ r.2.mem ((c.tc : Thread Cert.InProjection.nD Cert.InProjection.τ).loc Cert.InProjection.main_arg1) = m ((c.tc : Thread Cert.InProjection.nD Cert.InProjection.τ).loc Cert.InProjection.main_arg1)
      ∧ r.2.mem ((c.tc : Thread Cert.InProjection.nD Cert.InProjection.τ).loc Cert.InProjection.main_arg2) = m ((c.tc : Thread Cert.InProjection.nD Cert.InProjection.τ).loc Cert.InProjection.main_arg2))
      ∧ r.2.sem = fun _ => 0)

def quiescent_InProjectionIdeal [hInProjectionIdeal : Cert.InProjectionIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg), Pre_InProjectionIdeal m →
    θ_run (Cert.InProjectionIdeal.defs (F := Ideal)) (onTc (τ := Cert.InProjectionIdeal.τ) (Cert.InProjectionIdeal.main (F := Ideal))) ⟨m, fun _ => 0, g⟩ (fun r => (∀ c : Dev Cert.InProjectionIdeal.nD,
      r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
      ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
      ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ r.2.sem = fun _ => 0)

def quiescent_InProjectionReferenceIdeal [hInProjectionReferenceIdeal : Cert.InProjectionReferenceIdeal.Facts] : Prop :=
  ∀ (m : (ℓ : Loc Cert.InProjectionReferenceIdeal.nD Cert.InProjectionReferenceIdeal.τ Cert.InProjectionReferenceIdeal.sig) → Buf (Elt Ideal) ℓ) (g : Dev Cert.InProjectionReferenceIdeal.nD → PrngReg), Pre_InProjectionReferenceIdeal m →
    θ_run (Cert.InProjectionReferenceIdeal.defs (F := Ideal)) (onTc (τ := Cert.InProjectionReferenceIdeal.τ) (Cert.InProjectionReferenceIdeal.main (F := Ideal))) ⟨m, fun _ => 0, g⟩ (fun r => (∀ c : Dev Cert.InProjectionReferenceIdeal.nD,
      r.2.mem ((c.tc : Thread Cert.InProjectionReferenceIdeal.nD Cert.InProjectionReferenceIdeal.τ).loc Cert.InProjectionReferenceIdeal.main_arg0) = m ((c.tc : Thread Cert.InProjectionReferenceIdeal.nD Cert.InProjectionReferenceIdeal.τ).loc Cert.InProjectionReferenceIdeal.main_arg0)
      ∧ r.2.mem ((c.tc : Thread Cert.InProjectionReferenceIdeal.nD Cert.InProjectionReferenceIdeal.τ).loc Cert.InProjectionReferenceIdeal.main_arg1) = m ((c.tc : Thread Cert.InProjectionReferenceIdeal.nD Cert.InProjectionReferenceIdeal.τ).loc Cert.InProjectionReferenceIdeal.main_arg1)
      ∧ r.2.mem ((c.tc : Thread Cert.InProjectionReferenceIdeal.nD Cert.InProjectionReferenceIdeal.τ).loc Cert.InProjectionReferenceIdeal.main_arg2) = m ((c.tc : Thread Cert.InProjectionReferenceIdeal.nD Cert.InProjectionReferenceIdeal.τ).loc Cert.InProjectionReferenceIdeal.main_arg2))
      ∧ r.2.sem = fun _ => 0)

def preserves_Retention_RetentionIdeal : Prop :=
  True

def algebraic_RetentionIdeal_RetentionReferenceIdeal_pre_swapped_and_finite [hRetentionIdeal : Cert.RetentionIdeal.Facts] [hRetentionReferenceIdeal : Cert.RetentionReferenceIdeal.Facts] [hPre_swapped_and_finite : Cert.Pre_swapped_and_finite.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionReferenceIdeal.nD Cert.RetentionReferenceIdeal.τ Cert.RetentionReferenceIdeal.sig) → Buf (Elt Ideal) ℓ) (g' : Dev Cert.RetentionReferenceIdeal.nD → PrngReg), Pre_RetentionIdeal_swapped_and_finite m →
    (∀ c : Dev Cert.RetentionIdeal.nD,
      m' ((c.tc : Thread Cert.RetentionReferenceIdeal.nD Cert.RetentionReferenceIdeal.τ).loc Cert.RetentionReferenceIdeal.main_arg0) = m ((c.tc : Thread Cert.RetentionIdeal.nD Cert.RetentionIdeal.τ).loc Cert.RetentionIdeal.main_arg0)
      ∧ m' ((c.tc : Thread Cert.RetentionReferenceIdeal.nD Cert.RetentionReferenceIdeal.τ).loc Cert.RetentionReferenceIdeal.main_arg1) = m ((c.tc : Thread Cert.RetentionIdeal.nD Cert.RetentionIdeal.τ).loc Cert.RetentionIdeal.main_arg1)) →
    ∃ (v0 : (c : Dev Cert.RetentionIdeal.nD) → Buf (Elt Ideal) ((c.tc : Thread Cert.RetentionIdeal.nD Cert.RetentionIdeal.τ).loc Cert.RetentionIdeal.main_v127_0)) (v1 : (c : Dev Cert.RetentionIdeal.nD) → Buf (Elt Ideal) ((c.tc : Thread Cert.RetentionIdeal.nD Cert.RetentionIdeal.τ).loc Cert.RetentionIdeal.main_v127_1)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v127_0) = v0 c
          ∧ r.2.mem ((c.tc : Thread Cert.RetentionIdeal.nD Cert.RetentionIdeal.τ).loc Cert.RetentionIdeal.main_v127_1) = v1 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1))
      ∧ θ_run (Cert.RetentionReferenceIdeal.defs (F := Ideal)) (onTc (τ := Cert.RetentionReferenceIdeal.τ) (Cert.RetentionReferenceIdeal.main (F := Ideal))) ⟨m', fun _ => 0, g'⟩ (fun r => ∀ c : Dev Cert.RetentionReferenceIdeal.nD,
          r.2.mem ((c.tc : Thread Cert.RetentionReferenceIdeal.nD Cert.RetentionReferenceIdeal.τ).loc Cert.RetentionReferenceIdeal.main_v134) = v0 c
          ∧ r.2.mem ((c.tc : Thread Cert.RetentionReferenceIdeal.nD Cert.RetentionReferenceIdeal.τ).loc Cert.RetentionReferenceIdeal.main_v143) = v1 c
          ∧ r.2.mem ((c.tc : Thread Cert.RetentionReferenceIdeal.nD Cert.RetentionReferenceIdeal.τ).loc Cert.RetentionReferenceIdeal.main_arg0) = m' ((c.tc : Thread Cert.RetentionReferenceIdeal.nD Cert.RetentionReferenceIdeal.τ).loc Cert.RetentionReferenceIdeal.main_arg0)
          ∧ r.2.mem ((c.tc : Thread Cert.RetentionReferenceIdeal.nD Cert.RetentionReferenceIdeal.τ).loc Cert.RetentionReferenceIdeal.main_arg1) = m' ((c.tc : Thread Cert.RetentionReferenceIdeal.nD Cert.RetentionReferenceIdeal.τ).loc Cert.RetentionReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_names_experts : Cert.Pre_names_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v30) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)) →
    ∃ (v0 : (c : Dev Cert.FeedForwardIdeal.nD) → Buf (Elt Ideal) ((c.tc : Thread Cert.FeedForwardIdeal.nD Cert.FeedForwardIdeal.τ).loc Cert.FeedForwardIdeal.main_v0)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v0) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v103) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5))

def preserves_InProjection_InProjectionIdeal : Prop :=
  True

def algebraic_InProjectionIdeal_InProjectionReferenceIdeal [hInProjectionIdeal : Cert.InProjectionIdeal.Facts] [hInProjectionReferenceIdeal : Cert.InProjectionReferenceIdeal.Facts] : Prop :=
  ∀ (m : (ℓ : Loc Cert.InProjectionIdeal.nD Cert.InProjectionIdeal.τ Cert.InProjectionIdeal.sig) → Buf (Elt Ideal) ℓ) (g : Dev Cert.InProjectionIdeal.nD → PrngReg)
    (m' : (ℓ : Loc Cert.InProjectionReferenceIdeal.nD Cert.InProjectionReferenceIdeal.τ Cert.InProjectionReferenceIdeal.sig) → Buf (Elt Ideal) ℓ) (g' : Dev Cert.InProjectionReferenceIdeal.nD → PrngReg), Pre_InProjectionIdeal m →
    (∀ c : Dev Cert.InProjectionIdeal.nD,
      m' ((c.tc : Thread Cert.InProjectionReferenceIdeal.nD Cert.InProjectionReferenceIdeal.τ).loc Cert.InProjectionReferenceIdeal.main_arg0) = m ((c.tc : Thread Cert.InProjectionIdeal.nD Cert.InProjectionIdeal.τ).loc Cert.InProjectionIdeal.main_arg0)
      ∧ m' ((c.tc : Thread Cert.InProjectionReferenceIdeal.nD Cert.InProjectionReferenceIdeal.τ).loc Cert.InProjectionReferenceIdeal.main_arg1) = m ((c.tc : Thread Cert.InProjectionIdeal.nD Cert.InProjectionIdeal.τ).loc Cert.InProjectionIdeal.main_arg1)
      ∧ m' ((c.tc : Thread Cert.InProjectionReferenceIdeal.nD Cert.InProjectionReferenceIdeal.τ).loc Cert.InProjectionReferenceIdeal.main_arg2) = m ((c.tc : Thread Cert.InProjectionIdeal.nD Cert.InProjectionIdeal.τ).loc Cert.InProjectionIdeal.main_arg2)) →
    ∃ (v0 : (c : Dev Cert.InProjectionIdeal.nD) → Buf (Elt Ideal) ((c.tc : Thread Cert.InProjectionIdeal.nD Cert.InProjectionIdeal.τ).loc Cert.InProjectionIdeal.main_v0_0)) (v1 : (c : Dev Cert.InProjectionIdeal.nD) → Buf (Elt Ideal) ((c.tc : Thread Cert.InProjectionIdeal.nD Cert.InProjectionIdeal.τ).loc Cert.InProjectionIdeal.main_v0_1)) (v2 : (c : Dev Cert.InProjectionIdeal.nD) → Buf (Elt Ideal) ((c.tc : Thread Cert.InProjectionIdeal.nD Cert.InProjectionIdeal.τ).loc Cert.InProjectionIdeal.main_v0_2)) (v3 : (c : Dev Cert.InProjectionIdeal.nD) → Buf (Elt Ideal) ((c.tc : Thread Cert.InProjectionIdeal.nD Cert.InProjectionIdeal.τ).loc Cert.InProjectionIdeal.main_v0_3)) (v4 : (c : Dev Cert.InProjectionIdeal.nD) → Buf (Elt Ideal) ((c.tc : Thread Cert.InProjectionIdeal.nD Cert.InProjectionIdeal.τ).loc Cert.InProjectionIdeal.main_v0_4)),
      θ_run (Cert.InProjectionIdeal.defs (F := Ideal)) (onTc (τ := Cert.InProjectionIdeal.τ) (Cert.InProjectionIdeal.main (F := Ideal))) ⟨m, fun _ => 0, g⟩ (fun r => ∀ c : Dev Cert.InProjectionIdeal.nD,
          r.2.mem ((c.tc : Thread Cert.InProjectionIdeal.nD Cert.InProjectionIdeal.τ).loc Cert.InProjectionIdeal.main_v0_0) = v0 c
          ∧ r.2.mem ((c.tc : Thread Cert.InProjectionIdeal.nD Cert.InProjectionIdeal.τ).loc Cert.InProjectionIdeal.main_v0_1) = v1 c
          ∧ r.2.mem ((c.tc : Thread Cert.InProjectionIdeal.nD Cert.InProjectionIdeal.τ).loc Cert.InProjectionIdeal.main_v0_2) = v2 c
          ∧ r.2.mem ((c.tc : Thread Cert.InProjectionIdeal.nD Cert.InProjectionIdeal.τ).loc Cert.InProjectionIdeal.main_v0_3) = v3 c
          ∧ r.2.mem ((c.tc : Thread Cert.InProjectionIdeal.nD Cert.InProjectionIdeal.τ).loc Cert.InProjectionIdeal.main_v0_4) = v4 c
          ∧ r.2.mem ((c.tc : Thread Cert.InProjectionIdeal.nD Cert.InProjectionIdeal.τ).loc Cert.InProjectionIdeal.main_arg0) = m ((c.tc : Thread Cert.InProjectionIdeal.nD Cert.InProjectionIdeal.τ).loc Cert.InProjectionIdeal.main_arg0)
          ∧ r.2.mem ((c.tc : Thread Cert.InProjectionIdeal.nD Cert.InProjectionIdeal.τ).loc Cert.InProjectionIdeal.main_arg1) = m ((c.tc : Thread Cert.InProjectionIdeal.nD Cert.InProjectionIdeal.τ).loc Cert.InProjectionIdeal.main_arg1)
          ∧ r.2.mem ((c.tc : Thread Cert.InProjectionIdeal.nD Cert.InProjectionIdeal.τ).loc Cert.InProjectionIdeal.main_arg2) = m ((c.tc : Thread Cert.InProjectionIdeal.nD Cert.InProjectionIdeal.τ).loc Cert.InProjectionIdeal.main_arg2))
      ∧ θ_run (Cert.InProjectionReferenceIdeal.defs (F := Ideal)) (onTc (τ := Cert.InProjectionReferenceIdeal.τ) (Cert.InProjectionReferenceIdeal.main (F := Ideal))) ⟨m', fun _ => 0, g'⟩ (fun r => ∀ c : Dev Cert.InProjectionReferenceIdeal.nD,
          r.2.mem ((c.tc : Thread Cert.InProjectionReferenceIdeal.nD Cert.InProjectionReferenceIdeal.τ).loc Cert.InProjectionReferenceIdeal.main_v26) = v0 c
          ∧ r.2.mem ((c.tc : Thread Cert.InProjectionReferenceIdeal.nD Cert.InProjectionReferenceIdeal.τ).loc Cert.InProjectionReferenceIdeal.main_v27) = v1 c
          ∧ r.2.mem ((c.tc : Thread Cert.InProjectionReferenceIdeal.nD Cert.InProjectionReferenceIdeal.τ).loc Cert.InProjectionReferenceIdeal.main_v31) = v2 c
          ∧ r.2.mem ((c.tc : Thread Cert.InProjectionReferenceIdeal.nD Cert.InProjectionReferenceIdeal.τ).loc Cert.InProjectionReferenceIdeal.main_v29) = v3 c
          ∧ r.2.mem ((c.tc : Thread Cert.InProjectionReferenceIdeal.nD Cert.InProjectionReferenceIdeal.τ).loc Cert.InProjectionReferenceIdeal.main_v30) = v4 c
          ∧ r.2.mem ((c.tc : Thread Cert.InProjectionReferenceIdeal.nD Cert.InProjectionReferenceIdeal.τ).loc Cert.InProjectionReferenceIdeal.main_arg0) = m' ((c.tc : Thread Cert.InProjectionReferenceIdeal.nD Cert.InProjectionReferenceIdeal.τ).loc Cert.InProjectionReferenceIdeal.main_arg0)
          ∧ r.2.mem ((c.tc : Thread Cert.InProjectionReferenceIdeal.nD Cert.InProjectionReferenceIdeal.τ).loc Cert.InProjectionReferenceIdeal.main_arg1) = m' ((c.tc : Thread Cert.InProjectionReferenceIdeal.nD Cert.InProjectionReferenceIdeal.τ).loc Cert.InProjectionReferenceIdeal.main_arg1)
          ∧ r.2.mem ((c.tc : Thread Cert.InProjectionReferenceIdeal.nD Cert.InProjectionReferenceIdeal.τ).loc Cert.InProjectionReferenceIdeal.main_arg2) = m' ((c.tc : Thread Cert.InProjectionReferenceIdeal.nD Cert.InProjectionReferenceIdeal.τ).loc Cert.InProjectionReferenceIdeal.main_arg2))

def Claim : Prop :=
  ∃ (hRetention : Cert.Retention.Facts) (hRetentionIdeal : Cert.RetentionIdeal.Facts) (hRetentionReferenceIdeal : Cert.RetentionReferenceIdeal.Facts) (hExperts : Cert.Experts.Facts) (hExpertsIdeal : Cert.ExpertsIdeal.Facts) (hExpertsReferenceIdeal : Cert.ExpertsReferenceIdeal.Facts) (hFeedForward : Cert.FeedForward.Facts) (hFeedForwardIdeal : Cert.FeedForwardIdeal.Facts) (hFeedForwardReferenceIdeal : Cert.FeedForwardReferenceIdeal.Facts) (hInProjection : Cert.InProjection.Facts) (hInProjectionIdeal : Cert.InProjectionIdeal.Facts) (hInProjectionReferenceIdeal : Cert.InProjectionReferenceIdeal.Facts) (hPre_swapped_and_finite : Cert.Pre_swapped_and_finite.Facts) (hPre_names_experts : Cert.Pre_names_experts.Facts),
    quiescent_Retention (hRetention := hRetention)
    ∧ quiescent_RetentionIdeal (hRetentionIdeal := hRetentionIdeal)
    ∧ quiescent_RetentionIdeal_pre_swapped_and_finite (hRetentionIdeal := hRetentionIdeal) (hPre_swapped_and_finite := hPre_swapped_and_finite)
    ∧ quiescent_RetentionReferenceIdeal (hRetentionReferenceIdeal := hRetentionReferenceIdeal)
    ∧ quiescent_RetentionReferenceIdeal_pre_swapped_and_finite (hRetentionReferenceIdeal := hRetentionReferenceIdeal) (hPre_swapped_and_finite := hPre_swapped_and_finite)
    ∧ quiescent_Experts (hExperts := hExperts) (hPre_names_experts := hPre_names_experts)
    ∧ quiescent_ExpertsIdeal (hExpertsIdeal := hExpertsIdeal) (hPre_names_experts := hPre_names_experts)
    ∧ quiescent_ExpertsReferenceIdeal (hExpertsReferenceIdeal := hExpertsReferenceIdeal)
    ∧ quiescent_ExpertsReferenceIdeal_pre_names_experts (hExpertsReferenceIdeal := hExpertsReferenceIdeal) (hPre_names_experts := hPre_names_experts)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_InProjection (hInProjection := hInProjection)
    ∧ quiescent_InProjectionIdeal (hInProjectionIdeal := hInProjectionIdeal)
    ∧ quiescent_InProjectionReferenceIdeal (hInProjectionReferenceIdeal := hInProjectionReferenceIdeal)
    ∧ preserves_Retention_RetentionIdeal
    ∧ algebraic_RetentionIdeal_RetentionReferenceIdeal_pre_swapped_and_finite (hRetentionIdeal := hRetentionIdeal) (hRetentionReferenceIdeal := hRetentionReferenceIdeal) (hPre_swapped_and_finite := hPre_swapped_and_finite)
    ∧ preserves_Experts_ExpertsIdeal
    ∧ algebraic_ExpertsIdeal_ExpertsReferenceIdeal (hExpertsIdeal := hExpertsIdeal) (hExpertsReferenceIdeal := hExpertsReferenceIdeal) (hPre_names_experts := hPre_names_experts)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_InProjection_InProjectionIdeal
    ∧ algebraic_InProjectionIdeal_InProjectionReferenceIdeal (hInProjectionIdeal := hInProjectionIdeal) (hInProjectionReferenceIdeal := hInProjectionReferenceIdeal)
-- ==== Pre_names_experts.lean ====
abbrev S71680x1024 : Shape := ⟨2, ![71680, 1024]⟩
abbrev S140 : Shape := ⟨1, ![140]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S140 : S_.BroadcastsInDim S140 (![] : Fin 0 → Fin S140.rank)
  reducesTo_S140_S_d0 : S140.ReducesTo [0] S_
  h_S_ : 0 < S_.numel

variable [Facts]

def fn {F : FTy → Type} [FloatOps F] (main_arg0 : FVec F S71680x1024 .f32) (main_arg1 : IVec S140 32) (main_arg2 : FVec F S8x1024x3584 .bf16) (main_arg3 : FVec F S8x1024x3584 .bf16) (main_arg4 : FVec F S8x3584x1024 .bf16) : IVec S_ 1 :=
  let main_c : IVec S_ 32 := constantI S_ 32 0#32
  let main_v0 : IVec S140 32 := broadcastInDim S140 ![] bcast_S_S140 main_c
  let main_v1 : IVec S140 1 := cmpi .sge main_arg1 main_v0
  let main_c_0 : IVec S_ 32 := constantI S_ 32 8#32
  let main_v2 : IVec S140 32 := broadcastInDim S140 ![] bcast_S_S140 main_c_0
  let main_v3 : IVec S140 1 := cmpi .slt main_arg1 main_v2
  let main_v4 : IVec S140 1 := andi main_v1 main_v3
  let main_c_1 : IVec S_ 1 := constantI S_ 1 1#1
  let main_v5 : IVec S_ 1 := (fun x v => Host.reduce IntOp.andi x v reducesTo_S140_S_d0 h_S_) main_v4 main_c_1
  main_v5
-- ==== Pre_swapped_and_finite.lean ====
abbrev S4x8448x1536 : Shape := ⟨3, ![4, 8448, 1536]⟩
abbrev S2x4 : Shape := ⟨2, ![2, 4]⟩
abbrev S4x8448x24x64 : Shape := ⟨4, ![4, 8448, 24, 64]⟩
abbrev S4x8448x768 : Shape := ⟨3, ![4, 8448, 768]⟩
abbrev S_ : Shape := ⟨0, ![]⟩
abbrev S4x8448x8x64 : Shape := ⟨4, ![4, 8448, 8, 64]⟩
abbrev S4x8448x8x32 : Shape := ⟨4, ![4, 8448, 8, 32]⟩

class Facts : Prop where
  shapeCasts_S4x8448x1536_S4x8448x24x64 : S4x8448x1536.ShapeCasts S4x8448x24x64
  slices_S4x8448x1536_S4x8448x768_0_0_0 : S4x8448x1536.Slices ![0, 0, 0] S4x8448x768
  bcast_S_S4x8448x768 : S_.BroadcastsInDim S4x8448x768 (![] : Fin 0 → Fin S4x8448x768.rank)
  reducesTo_S4x8448x768_S_d0_1_2 : S4x8448x768.ReducesTo [0, 1, 2] S_
  h_S_ : 0 < S_.numel
  slices_S4x8448x24x64_S4x8448x8x64_0_0_16_0 : S4x8448x24x64.Slices ![0, 0, 16, 0] S4x8448x8x64
  slices_S4x8448x24x64_S4x8448x8x64_0_0_0_0 : S4x8448x24x64.Slices ![0, 0, 0, 0] S4x8448x8x64
  slices_S4x8448x8x64_S4x8448x8x32_0_0_0_32 : S4x8448x8x64.Slices ![0, 0, 0, 32] S4x8448x8x32
  slices_S4x8448x8x64_S4x8448x8x32_0_0_0_0 : S4x8448x8x64.Slices ![0, 0, 0, 0] S4x8448x8x32
  concatenates_S4x8448x8x32_S4x8448x8x32_S4x8448x8x64_d3 : Shape.Concatenates [S4x8448x8x32, S4x8448x8x32] S4x8448x8x64 3
  reducesTo_S4x8448x8x64_S_d0_1_2_3 : S4x8448x8x64.ReducesTo [0, 1, 2, 3] S_

variable [Facts]

def fn {F : FTy → Type} [FloatOps F] (main_arg0 : FVec F S4x8448x1536 .f32) (main_arg1 : FVec F S2x4 .f32) : IVec S_ 1 :=
  let main_v0 : FVec F S4x8448x24x64 .f32 := shapeCast S4x8448x24x64 main_arg0 shapeCasts_S4x8448x1536_S4x8448x24x64
  let main_v1 : FVec F S4x8448x768 .f32 := (extractStridedSlice S4x8448x768 ![0, 0, 0] · slices_S4x8448x1536_S4x8448x768_0_0_0) main_arg0
  let main_v2 : FVec F S4x8448x768 .f32 := Host.absf main_v1
  let main_cst : FVec F S_ .f32 := constant S_ .f32 0x7F800000#32
  let main_v3 : FVec F S4x8448x768 .f32 := broadcastInDim S4x8448x768 ![] bcast_S_S4x8448x768 main_cst
  let main_v4 : IVec S4x8448x768 1 := cmpf .olt main_v2 main_v3
  let main_c : IVec S_ 1 := constantI S_ 1 1#1
  let main_v5 : IVec S_ 1 := (fun x v => Host.reduce IntOp.andi x v reducesTo_S4x8448x768_S_d0_1_2 h_S_) main_v4 main_c
  let main_v6 : FVec F S4x8448x8x64 .f32 := (extractStridedSlice S4x8448x8x64 ![0, 0, 16, 0] · slices_S4x8448x24x64_S4x8448x8x64_0_0_16_0) main_v0
  let main_v7 : FVec F S4x8448x8x64 .f32 := (extractStridedSlice S4x8448x8x64 ![0, 0, 0, 0] · slices_S4x8448x24x64_S4x8448x8x64_0_0_0_0) main_v0
  let main_v8 : FVec F S4x8448x8x32 .f32 := (extractStridedSlice S4x8448x8x32 ![0, 0, 0, 32] · slices_S4x8448x8x64_S4x8448x8x32_0_0_0_32) main_v7
  let main_v9 : FVec F S4x8448x8x32 .f32 := (extractStridedSlice S4x8448x8x32 ![0, 0, 0, 0] · slices_S4x8448x8x64_S4x8448x8x32_0_0_0_0) main_v7
  let main_v10 : FVec F S4x8448x8x64 .f32 := (fun a b => concatenate S4x8448x8x64 3 [⟨S4x8448x8x32, a⟩, ⟨S4x8448x8x32, b⟩] concatenates_S4x8448x8x32_S4x8448x8x32_S4x8448x8x64_d3) main_v8 main_v9
  let main_v11 : IVec S4x8448x8x64 1 := cmpf .oeq main_v6 main_v10
  let main_c_0 : IVec S_ 1 := constantI S_ 1 1#1
  let main_v12 : IVec S_ 1 := (fun x v => Host.reduce IntOp.andi x v reducesTo_S4x8448x8x64_S_d0_1_2_3 h_S_) main_v11 main_c_0
  let main_v13 : IVec S_ 1 := andi main_v5 main_v12
  main_v13
-- ==== Retention.lean ====
abbrev S4x8448x1536 : Shape := ⟨3, ![4, 8448, 1536]⟩
abbrev S2x4 : Shape := ⟨2, ![2, 4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S2x4x1x1 : Shape := ⟨4, ![2, 4, 1, 1]⟩
abbrev S_ : Shape := ⟨0, ![]⟩
abbrev S1x4x1x1 : Shape := ⟨4, ![1, 4, 1, 1]⟩
abbrev S4x1x1 : Shape := ⟨3, ![4, 1, 1]⟩
abbrev S1x256x256 : Shape := ⟨3, ![1, 256, 256]⟩
abbrev S4x256x256 : Shape := ⟨3, ![4, 256, 256]⟩
abbrev S1x4x256x256 : Shape := ⟨4, ![1, 4, 256, 256]⟩
abbrev S2x4x256x256 : Shape := ⟨4, ![2, 4, 256, 256]⟩
abbrev S1x4 : Shape := ⟨2, ![1, 4]⟩
abbrev S4 : Shape := ⟨1, ![4]⟩
abbrev S256x4 : Shape := ⟨2, ![256, 4]⟩
abbrev S256x4x64 : Shape := ⟨3, ![256, 4, 64]⟩
abbrev S2x256x256 : Shape := ⟨3, ![2, 256, 256]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S256x64 : Shape := ⟨2, ![256, 64]⟩
abbrev S8448x64 : Shape := ⟨2, ![8448, 64]⟩
abbrev S1x8448x1x64 : Shape := ⟨4, ![1, 8448, 1, 64]⟩
abbrev S1x8448x4x64 : Shape := ⟨4, ![1, 8448, 4, 64]⟩
abbrev S8448x256 : Shape := ⟨2, ![8448, 256]⟩
abbrev S4x8448x256 : Shape := ⟨3, ![4, 8448, 256]⟩
abbrev S1x256x1536 : Shape := ⟨3, ![1, 256, 1536]⟩
abbrev S2x4x64x64 : Shape := ⟨4, ![2, 4, 64, 64]⟩
abbrev S256x1536 : Shape := ⟨2, ![256, 1536]⟩
abbrev S1x1x64x64 : Shape := ⟨4, ![1, 1, 64, 64]⟩
abbrev S64x64 : Shape := ⟨2, ![64, 64]⟩
abbrev S1x1x256x256 : Shape := ⟨4, ![1, 1, 256, 256]⟩
abbrev S1x1 : Shape := ⟨2, ![1, 1]⟩

abbrev nBuf : Space → Nat
  | .hbm => 149
  | .vmem => 20
  | .smem => 1
  | _ => 0

abbrev hbmTy0_0 (i : Nat) : BufTy := match i % 128 with
  | 0 => ⟨S4x8448x1536, .f32⟩
  | 1 => ⟨S2x4, .f32⟩
  | 2 => ⟨S2x4, .f32⟩
  | 3 => ⟨S2x4, .f32⟩
  | 4 => ⟨S256, .f32⟩
  | 5 => ⟨S256x1, .f32⟩
  | 6 => ⟨S1x256, .f32⟩
  | 7 => ⟨S256x256, .f32⟩
  | 8 => ⟨S256x256, .f32⟩
  | 9 => ⟨S256x256, .f32⟩
  | 10 => ⟨S2x4x1x1, .f32⟩
  | 11 => ⟨S_, .f32⟩
  | 12 => ⟨S256x256, .f32⟩
  | 13 => ⟨S256x256, .i1⟩
  | 14 => ⟨S1x4x1x1, .f32⟩
  | 15 => ⟨S4x1x1, .f32⟩
  | 16 => ⟨S1x256x256, .f32⟩
  | 17 => ⟨S4x256x256, .f32⟩
  | 18 => ⟨S4x256x256, .f32⟩
  | 19 => ⟨S4x256x256, .f32⟩
  | 20 => ⟨S_, .f32⟩
  | 21 => ⟨S_, .f32⟩
  | 22 => ⟨S4x256x256, .i1⟩
  | 23 => ⟨S4x256x256, .f32⟩
  | 24 => ⟨S4x256x256, .f32⟩
  | 25 => ⟨S4x256x256, .f32⟩
  | 26 => ⟨S_, .f32⟩
  | 27 => ⟨S256x256, .f32⟩
  | 28 => ⟨S256x256, .i1⟩
  | 29 => ⟨S256x256, .f32⟩
  | 30 => ⟨S1x4x1x1, .f32⟩
  | 31 => ⟨S4x1x1, .f32⟩
  | 32 => ⟨S1x256x256, .f32⟩
  | 33 => ⟨S4x256x256, .f32⟩
  | 34 => ⟨S4x256x256, .f32⟩
  | 35 => ⟨S4x256x256, .f32⟩
  | 36 => ⟨S_, .f32⟩
  | 37 => ⟨S_, .f32⟩
  | 38 => ⟨S4x256x256, .i1⟩
  | 39 => ⟨S4x256x256, .f32⟩
  | 40 => ⟨S4x256x256, .f32⟩
  | 41 => ⟨S4x256x256, .f32⟩
  | 42 => ⟨S1x4x256x256, .f32⟩
  | 43 => ⟨S1x4x256x256, .f32⟩
  | 44 => ⟨S2x4x256x256, .f32⟩
  | 45 => ⟨S256x1, .f32⟩
  | 46 => ⟨S_, .f32⟩
  | 47 => ⟨S256x1, .f32⟩
  | 48 => ⟨S256x1, .f32⟩
  | 49 => ⟨S1x4, .f32⟩
  | 50 => ⟨S4, .f32⟩
  | 51 => ⟨S1x4, .f32⟩
  | 52 => ⟨S256x4, .f32⟩
  | 53 => ⟨S256x4, .f32⟩
  | 54 => ⟨S256x4, .f32⟩
  | 55 => ⟨S256x4, .f32⟩
  | 56 => ⟨S256x4x64, .f32⟩
  | 57 => ⟨S256x256, .f32⟩
  | 58 => ⟨S256x1, .f32⟩
  | 59 => ⟨S_, .f32⟩
  | 60 => ⟨S256x1, .f32⟩
  | 61 => ⟨S256x1, .f32⟩
  | 62 => ⟨S1x4, .f32⟩
  | 63 => ⟨S4, .f32⟩
  | 64 => ⟨S1x4, .f32⟩
  | 65 => ⟨S256x4, .f32⟩
  | 66 => ⟨S256x4, .f32⟩
  | 67 => ⟨S256x4, .f32⟩
  | 68 => ⟨S256x4, .f32⟩
  | 69 => ⟨S256x4x64, .f32⟩
  | 70 => ⟨S256x256, .f32⟩
  | 71 => ⟨S1x256x256, .f32⟩
  | 72 => ⟨S1x256x256, .f32⟩
  | 73 => ⟨S2x256x256, .f32⟩
  | 74 => ⟨S256x1, .f32⟩
  | 75 => ⟨S_, .f32⟩
  | 76 => ⟨S256x1, .f32⟩
  | 77 => ⟨S256x1, .f32⟩
  | 78 => ⟨S1x4, .f32⟩
  | 79 => ⟨S4, .f32⟩
  | 80 => ⟨S1x4, .f32⟩
  | 81 => ⟨S256x4, .f32⟩
  | 82 => ⟨S256x4, .f32⟩
  | 83 => ⟨S256x4, .f32⟩
  | 84 => ⟨S256x4, .f32⟩
  | 85 => ⟨S256x4x64, .f32⟩
  | 86 => ⟨S256x256, .f32⟩
  | 87 => ⟨S256x1, .f32⟩
  | 88 => ⟨S1x4, .f32⟩
  | 89 => ⟨S4, .f32⟩
  | 90 => ⟨S1x4, .f32⟩
  | 91 => ⟨S256x4, .f32⟩
  | 92 => ⟨S256x4, .f32⟩
  | 93 => ⟨S256x4, .f32⟩
  | 94 => ⟨S256x4, .f32⟩
  | 95 => ⟨S256x4x64, .f32⟩
  | 96 => ⟨S256x256, .f32⟩
  | 97 => ⟨S1x256x256, .f32⟩
  | 98 => ⟨S1x256x256, .f32⟩
  | 99 => ⟨S2x256x256, .f32⟩
  | 100 => ⟨S_, .f32⟩
  | 101 => ⟨S2x4, .f32⟩
  | 102 => ⟨S2x4, .f32⟩
  | 103 => ⟨S2x4, .f32⟩
  | 104 => ⟨S128, .f32⟩
  | 105 => ⟨S128x64, .f32⟩
  | 106 => ⟨S8192, .f32⟩
  | 107 => ⟨S64, .f32⟩
  | 108 => ⟨S1x64, .f32⟩
  | 109 => ⟨S128x64, .f32⟩
  | 110 => ⟨S8192, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S8192x1, .f32⟩
  | 120 => ⟨S1x16, .f32⟩
  | 121 => ⟨S8192x16, .f32⟩
  | 122 => ⟨S8192x16, .f32⟩
  | 123 => ⟨S8192x16, .f32⟩
  | 124 => ⟨S8192x1, .f32⟩
  | 125 => ⟨S1x16, .f32⟩
  | 126 => ⟨S8192x16, .f32⟩
  | 127 => ⟨S8192x16, .f32⟩
  | _ => ⟨S4x8448x1536, .f32⟩

abbrev hbmTy0_1 (i : Nat) : BufTy := match i % 128 with
  | 0 => ⟨S8192x16, .f32⟩
  | 1 => ⟨S8192x32, .f32⟩
  | 2 => ⟨S8192x32, .f32⟩
  | 3 => ⟨S8192x32, .f32⟩
  | 4 => ⟨S8192x64, .f32⟩
  | 5 => ⟨S8192x32, .f32⟩
  | 6 => ⟨S8192x64, .f32⟩
  | 7 => ⟨S_, .f32⟩
  | 8 => ⟨S256x64, .f32⟩
  | 9 => ⟨S8448x64, .f32⟩
  | 10 => ⟨S_, .f32⟩
  | 11 => ⟨S256x64, .f32⟩
  | 12 => ⟨S8448x64, .f32⟩
  | 13 => ⟨S1x8448x1x64, .f32⟩
  | 14 => ⟨S1x8448x4x64, .f32⟩
  | 15 => ⟨S8448x256, .f32⟩
  | 16 => ⟨S1x8448x1x64, .f32⟩
  | 17 => ⟨S1x8448x4x64, .f32⟩
  | 18 => ⟨S8448x256, .f32⟩
  | 19 => ⟨S4x8448x256, .f32⟩
  | 20 => ⟨S4x8448x256, .f32⟩
  | _ => ⟨S4x8448x1536, .f32⟩

abbrev hbmTy (i : Nat) : BufTy := match i / 128 with
  | 0 => hbmTy0_0 i
  | 1 => hbmTy0_1 i
  | _ => ⟨S4x8448x1536, .f32⟩

abbrev bufTy : (tb : Table) → Fin (tcTables nBuf tb) → BufTy
  | .hbm, ⟨i, _⟩ => hbmTy i
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S2x4x256x256, .f32⟩
  | .local _ .vmem, ⟨13, _⟩ => ⟨S2x256x256, .f32⟩
  | .local _ .vmem, ⟨14, _⟩ => ⟨S2x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S2x4x64x64, .f32⟩
  | .local _ .smem, ⟨0, _⟩ => ⟨S2x4, .f32⟩
  | _, _ => ⟨S4x8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_5 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_cst_6 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_7 : Ref sig .tc := ⟨.hbm, 113, rfl⟩
abbrev main_v97 : Ref sig .tc := ⟨.hbm, 114, rfl⟩
abbrev main_v98 : Ref sig .tc := ⟨.hbm, 115, rfl⟩
abbrev main_cst_8 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_9 : Ref sig .tc := ⟨.hbm, 135, rfl⟩
abbrev main_v117 : Ref sig .tc := ⟨.hbm, 136, rfl⟩
abbrev main_v118 : Ref sig .tc := ⟨.hbm, 137, rfl⟩
abbrev main_cst_10 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127_0 : Ref sig .tc := ⟨.hbm, 147, rfl⟩
abbrev main_v127_1 : Ref sig .tc := ⟨.hbm, 148, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c33_i32 : BitVec 32 := 33#32
  let v2 : BitVec 32 := Scalar.subi c33_i32 arg1
  let v3 : BitVec 32 := Scalar.select v0 v1 v2
  let c0_i32_0 : BitVec 32 := 0#32
  let c0_i32_1 : BitVec 32 := 0#32
  ![arg0.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c33_i32 : BitVec 32 := 33#32
  let v2 : BitVec 32 := Scalar.subi c33_i32 arg1
  let v3 : BitVec 32 := Scalar.select v0 v1 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c33_i32 : BitVec 32 := 33#32
  let v2 : BitVec 32 := Scalar.subi c33_i32 arg1
  let v3 : BitVec 32 := Scalar.select v0 v1 v2
  let c0_i32_0 : BitVec 32 := 0#32
  let c0_i32_1 : BitVec 32 := 0#32
  ![v3.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c33_i32 : BitVec 32 := 33#32
  let v2 : BitVec 32 := Scalar.subi c33_i32 arg1
  let v3 : BitVec 32 := Scalar.select v0 v1 v2
  let c0_i32_0 : BitVec 32 := 0#32
  let c0_i32_1 : BitVec 32 := 0#32
  ![arg0.toNat, v3.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S2x4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetentionReferenceIdeal.lean ====
abbrev S4x8448x1536 : Shape := ⟨3, ![4, 8448, 1536]⟩
abbrev S2x4 : Shape := ⟨2, ![2, 4]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S4x8448x768 : Shape := ⟨3, ![4, 8448, 768]⟩
abbrev S4x8448x256 : Shape := ⟨3, ![4, 8448, 256]⟩
abbrev S4x8448x4x64 : Shape := ⟨4, ![4, 8448, 4, 64]⟩
abbrev S4x4x8448x64 : Shape := ⟨4, ![4, 4, 8448, 64]⟩
abbrev S4x4x256x64 : Shape := ⟨4, ![4, 4, 256, 64]⟩
abbrev S4x4x8192x64 : Shape := ⟨4, ![4, 4, 8192, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S4x4x8192x32 : Shape := ⟨4, ![4, 4, 8192, 32]⟩
abbrev S1x1x8192x32 : Shape := ⟨4, ![1, 1, 8192, 32]⟩
abbrev S2x4x4x64x64 : Shape := ⟨5, ![2, 4, 4, 64, 64]⟩
abbrev S1x4x4x8448x64 : Shape := ⟨5, ![1, 4, 4, 8448, 64]⟩
abbrev S2x4x4x8448x64 : Shape := ⟨5, ![2, 4, 4, 8448, 64]⟩
abbrev S8448x2x4x4x64 : Shape := ⟨5, ![8448, 2, 4, 4, 64]⟩
abbrev S1x2x4x4x64 : Shape := ⟨5, ![1, 2, 4, 4, 64]⟩
abbrev S2x4x4x64 : Shape := ⟨4, ![2, 4, 4, 64]⟩
abbrev S2x1x4x1x1 : Shape := ⟨5, ![2, 1, 4, 1, 1]⟩
abbrev S2x4x4x64x1 : Shape := ⟨5, ![2, 4, 4, 64, 1]⟩
abbrev S2x4x4x1x64 : Shape := ⟨5, ![2, 4, 4, 1, 64]⟩

abbrev nBuf : Space → Nat
  | .hbm => 198
  | .vmem => 0
  | .smem => 0
  | _ => 0

abbrev hbmTy0_0 (i : Nat) : BufTy := match i % 128 with
  | 0 => ⟨S4x8448x1536, .f32⟩
  | 1 => ⟨S2x4, .f32⟩
  | 2 => ⟨S128, .f32⟩
  | 3 => ⟨S128x64, .f32⟩
  | 4 => ⟨S8192, .f32⟩
  | 5 => ⟨S64, .f32⟩
  | 6 => ⟨S1x64, .f32⟩
  | 7 => ⟨S128x64, .f32⟩
  | 8 => ⟨S8192, .f32⟩
  | 9 => ⟨S2x4, .f32⟩
  | 10 => ⟨S2x4, .f32⟩
  | 11 => ⟨S2x4, .f32⟩
  | 12 => ⟨S4x8448x768, .f32⟩
  | 13 => ⟨S4x8448x256, .f32⟩
  | 14 => ⟨S4x8448x256, .f32⟩
  | 15 => ⟨S4x8448x256, .f32⟩
  | 16 => ⟨S4x8448x4x64, .f32⟩
  | 17 => ⟨S4x4x8448x64, .f32⟩
  | 18 => ⟨S4x8448x4x64, .f32⟩
  | 19 => ⟨S4x4x8448x64, .f32⟩
  | 20 => ⟨S4x8448x4x64, .f32⟩
  | 21 => ⟨S4x4x8448x64, .f32⟩
  | 22 => ⟨S4x4x256x64, .f32⟩
  | 23 => ⟨S4x4x8192x64, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x1, .f32⟩
  | 38 => ⟨S1x16, .f32⟩
  | 39 => ⟨S8192x16, .f32⟩
  | 40 => ⟨S8192x16, .f32⟩
  | 41 => ⟨S8192x16, .f32⟩
  | 42 => ⟨S8192x32, .f32⟩
  | 43 => ⟨S8192x32, .f32⟩
  | 44 => ⟨S8192x32, .f32⟩
  | 45 => ⟨S4x4x8192x32, .f32⟩
  | 46 => ⟨S4x4x8192x32, .f32⟩
  | 47 => ⟨S1x1x8192x32, .f32⟩
  | 48 => ⟨S4x4x8192x32, .f32⟩
  | 49 => ⟨S4x4x8192x32, .f32⟩
  | 50 => ⟨S1x1x8192x32, .f32⟩
  | 51 => ⟨S4x4x8192x32, .f32⟩
  | 52 => ⟨S4x4x8192x32, .f32⟩
  | 53 => ⟨S4x4x8192x32, .f32⟩
  | 54 => ⟨S1x1x8192x32, .f32⟩
  | 55 => ⟨S4x4x8192x32, .f32⟩
  | 56 => ⟨S4x4x8192x32, .f32⟩
  | 57 => ⟨S1x1x8192x32, .f32⟩
  | 58 => ⟨S4x4x8192x32, .f32⟩
  | 59 => ⟨S4x4x8192x32, .f32⟩
  | 60 => ⟨S4x4x8192x32, .f32⟩
  | 61 => ⟨S4x4x8192x64, .f32⟩
  | 62 => ⟨S4x4x8448x64, .f32⟩
  | 63 => ⟨S4x4x256x64, .f32⟩
  | 64 => ⟨S4x4x8192x64, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S8192x1, .f32⟩
  | 74 => ⟨S1x16, .f32⟩
  | 75 => ⟨S8192x16, .f32⟩
  | 76 => ⟨S8192x16, .f32⟩
  | 77 => ⟨S8192x16, .f32⟩
  | 78 => ⟨S8192x1, .f32⟩
  | 79 => ⟨S1x16, .f32⟩
  | 80 => ⟨S8192x16, .f32⟩
  | 81 => ⟨S8192x16, .f32⟩
  | 82 => ⟨S8192x16, .f32⟩
  | 83 => ⟨S8192x32, .f32⟩
  | 84 => ⟨S8192x32, .f32⟩
  | 85 => ⟨S8192x32, .f32⟩
  | 86 => ⟨S4x4x8192x32, .f32⟩
  | 87 => ⟨S4x4x8192x32, .f32⟩
  | 88 => ⟨S1x1x8192x32, .f32⟩
  | 89 => ⟨S4x4x8192x32, .f32⟩
  | 90 => ⟨S4x4x8192x32, .f32⟩
  | 91 => ⟨S1x1x8192x32, .f32⟩
  | 92 => ⟨S4x4x8192x32, .f32⟩
  | 93 => ⟨S4x4x8192x32, .f32⟩
  | 94 => ⟨S4x4x8192x32, .f32⟩
  | 95 => ⟨S1x1x8192x32, .f32⟩
  | 96 => ⟨S4x4x8192x32, .f32⟩
  | 97 => ⟨S4x4x8192x32, .f32⟩
  | 98 => ⟨S1x1x8192x32, .f32⟩
  | 99 => ⟨S4x4x8192x32, .f32⟩
  | 100 => ⟨S4x4x8192x32, .f32⟩
  | 101 => ⟨S4x4x8192x32, .f32⟩
  | 102 => ⟨S4x4x8192x64, .f32⟩
  | 103 => ⟨S4x4x8448x64, .f32⟩
  | 104 => ⟨S_, .f32⟩
  | 105 => ⟨S4x4x8448x64, .f32⟩
  | 106 => ⟨S4x4x8448x64, .f32⟩
  | 107 => ⟨S_, .f32⟩
  | 108 => ⟨S2x4x4x64x64, .f32⟩
  | 109 => ⟨S4x4x256x64, .f32⟩
  | 110 => ⟨S4x4x256x64, .f32⟩
  | 111 => ⟨S4x4x8192x64, .f32⟩
  | 112 => ⟨S4x4x8192x64, .f32⟩
  | 113 => ⟨S4x4x8448x64, .f32⟩
  | 114 => ⟨S1x4x4x8448x64, .f32⟩
  | 115 => ⟨S1x4x4x8448x64, .f32⟩
  | 116 => ⟨S2x4x4x8448x64, .f32⟩
  | 117 => ⟨S8448x2x4x4x64, .f32⟩
  | 118 => ⟨S4x4x256x64, .f32⟩
  | 119 => ⟨S4x4x256x64, .f32⟩
  | 120 => ⟨S4x4x8192x64, .f32⟩
  | 121 => ⟨S4x4x8192x64, .f32⟩
  | 122 => ⟨S4x4x8448x64, .f32⟩
  | 123 => ⟨S1x4x4x8448x64, .f32⟩
  | 124 => ⟨S1x4x4x8448x64, .f32⟩
  | 125 => ⟨S2x4x4x8448x64, .f32⟩
  | 126 => ⟨S8448x2x4x4x64, .f32⟩
  | 127 => ⟨S4x4x256x64, .f32⟩
  | _ => ⟨S4x8448x1536, .f32⟩

abbrev hbmTy0_1 (i : Nat) : BufTy := match i % 128 with
  | 0 => ⟨S4x4x256x64, .f32⟩
  | 1 => ⟨S4x4x8192x64, .f32⟩
  | 2 => ⟨S4x4x8192x64, .f32⟩
  | 3 => ⟨S4x4x8448x64, .f32⟩
  | 4 => ⟨S1x4x4x8448x64, .f32⟩
  | 5 => ⟨S1x4x4x8448x64, .f32⟩
  | 6 => ⟨S2x4x4x8448x64, .f32⟩
  | 7 => ⟨S8448x2x4x4x64, .f32⟩
  | 8 => ⟨S_, .f32⟩
  | 9 => ⟨S8448x2x4x4x64, .f32⟩
  | 10 => ⟨S_, .i32⟩
  | 11 => ⟨S8448x2x4x4x64, .f32⟩
  | 12 => ⟨S8448x2x4x4x64, .f32⟩
  | 13 => ⟨S8448x2x4x4x64, .f32⟩
  | 14 => ⟨S2x4, .f32⟩
  | 15 => ⟨S_, .i32⟩
  | 16 => ⟨S2x4x4x64x64, .f32⟩
  | 17 => ⟨S8448x2x4x4x64, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1x2x4x4x64, .f32⟩
  | 25 => ⟨S2x4x4x64, .f32⟩
  | 26 => ⟨S_, .i32⟩
  | 27 => ⟨S_, .i32⟩
  | 28 => ⟨S_, .i32⟩
  | 29 => ⟨S_, .i32⟩
  | 30 => ⟨S1x2x4x4x64, .f32⟩
  | 31 => ⟨S2x4x4x64, .f32⟩
  | 32 => ⟨S_, .i32⟩
  | 33 => ⟨S_, .i32⟩
  | 34 => ⟨S_, .i32⟩
  | 35 => ⟨S_, .i32⟩
  | 36 => ⟨S1x2x4x4x64, .f32⟩
  | 37 => ⟨S2x4x4x64, .f32⟩
  | 38 => ⟨S2x1x4x1x1, .f32⟩
  | 39 => ⟨S2x4x4x64x64, .f32⟩
  | 40 => ⟨S2x4x4x64x64, .f32⟩
  | 41 => ⟨S2x4x4x64x1, .f32⟩
  | 42 => ⟨S2x4x4x1x64, .f32⟩
  | 43 => ⟨S2x4x4x64x64, .f32⟩
  | 44 => ⟨S2x4x4x64x64, .f32⟩
  | 45 => ⟨S2x4x4x64x64, .f32⟩
  | 46 => ⟨S2x4x4x64x64, .f32⟩
  | 47 => ⟨S2x4x4x64, .f32⟩
  | 48 => ⟨S1x2x4x4x64, .f32⟩
  | 49 => ⟨S_, .i32⟩
  | 50 => ⟨S_, .i32⟩
  | 51 => ⟨S_, .i32⟩
  | 52 => ⟨S_, .i32⟩
  | 53 => ⟨S8448x2x4x4x64, .f32⟩
  | 54 => ⟨S_, .i32⟩
  | 55 => ⟨S_, .i32⟩
  | 56 => ⟨S2x4x4x8448x64, .f32⟩
  | 57 => ⟨S1x4x4x8448x64, .f32⟩
  | 58 => ⟨S4x4x8448x64, .f32⟩
  | 59 => ⟨S4x8448x4x64, .f32⟩
  | 60 => ⟨S4x8448x256, .f32⟩
  | 61 => ⟨S1x4x4x8448x64, .f32⟩
  | 62 => ⟨S4x4x8448x64, .f32⟩
  | 63 => ⟨S4x4x256x64, .f32⟩
  | 64 => ⟨S4x4x256x64, .f32⟩
  | 65 => ⟨S4x4x8192x64, .f32⟩
  | 66 => ⟨S4x4x8192x64, .f32⟩
  | 67 => ⟨S4x4x8448x64, .f32⟩
  | 68 => ⟨S4x8448x4x64, .f32⟩
  | 69 => ⟨S4x8448x256, .f32⟩
  | _ => ⟨S4x8448x1536, .f32⟩

abbrev hbmTy (i : Nat) : BufTy := match i / 128 with
  | 0 => hbmTy0_0 i
  | 1 => hbmTy0_1 i
  | _ => ⟨S4x8448x1536, .f32⟩

abbrev bufTy : (tb : Table) → Fin (tcTables nBuf tb) → BufTy
  | .hbm, ⟨i, _⟩ => hbmTy i
  | _, _ => ⟨S4x8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_cst_1 : Ref sig .tc := ⟨.hbm, 67, rfl⟩
abbrev main_v63 : Ref sig .tc := ⟨.hbm, 68, rfl⟩
abbrev main_v64 : Ref sig .tc := ⟨.hbm, 69, rfl⟩
abbrev main_cst_2 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_cst_3 : Ref sig .tc := ⟨.hbm, 104, rfl⟩
abbrev main_v98 : Ref sig .tc := ⟨.hbm, 105, rfl⟩
abbrev main_v99 : Ref sig .tc := ⟨.hbm, 106, rfl⟩
abbrev main_cst_4 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_cst_5 : Ref sig .tc := ⟨.hbm, 136, rfl⟩
abbrev main_v128 : Ref sig .tc := ⟨.hbm, 137, rfl⟩
abbrev main_c : Ref sig .tc := ⟨.hbm, 138, rfl⟩
abbrev main_v129_0 : Ref sig .tc := ⟨.hbm, 139, rfl⟩
abbrev main_v129_1 : Ref sig .tc := ⟨.hbm, 140, rfl⟩
abbrev main_v129_2 : Ref sig .tc := ⟨.hbm, 141, rfl⟩
abbrev main_v129_3 : Ref sig .tc := ⟨.hbm, 142, rfl⟩
abbrev main_v129_4 : Ref sig .tc := ⟨.hbm, 143, rfl⟩
abbrev main_v129_5 : Ref sig .tc := ⟨.hbm, 144, rfl⟩
abbrev main_v129_6 : Ref sig .tc := ⟨.hbm, 145, rfl⟩
abbrev main_while0c_c_12 : Ref sig .tc := ⟨.hbm, 146, rfl⟩
abbrev main_while0c_v144 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_call6_c_2 : Ref sig .tc := ⟨.hbm, 151, rfl⟩
abbrev main_while0b_call6_v0 : Ref sig .tc := ⟨.hbm, 152, rfl⟩
abbrev main_while0b_v144 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_c_1 : Ref sig .tc := ⟨.hbm, 156, rfl⟩
abbrev main_while0b_call7_c_2 : Ref sig .tc := ⟨.hbm, 157, rfl⟩
abbrev main_while0b_call7_v0 : Ref sig .tc := ⟨.hbm, 158, rfl⟩
abbrev main_while0b_v145 : Ref sig .tc := ⟨.hbm, 159, rfl⟩
abbrev main_while0b_call8_c : Ref sig .tc := ⟨.hbm, 160, rfl⟩
abbrev main_while0b_call8_c_0 : Ref sig .tc := ⟨.hbm, 161, rfl⟩
abbrev main_while0b_call8_c_1 : Ref sig .tc := ⟨.hbm, 162, rfl⟩
abbrev main_while0b_call8_c_2 : Ref sig .tc := ⟨.hbm, 163, rfl⟩
abbrev main_while0b_call8_v0 : Ref sig .tc := ⟨.hbm, 164, rfl⟩
abbrev main_while0b_v146 : Ref sig .tc := ⟨.hbm, 165, rfl⟩
abbrev main_while0b_v147 : Ref sig .tc := ⟨.hbm, 166, rfl⟩
abbrev main_while0b_v148 : Ref sig .tc := ⟨.hbm, 167, rfl⟩
abbrev main_while0b_v149 : Ref sig .tc := ⟨.hbm, 168, rfl⟩
abbrev main_while0b_v150 : Ref sig .tc := ⟨.hbm, 169, rfl⟩
abbrev main_while0b_v151 : Ref sig .tc := ⟨.hbm, 170, rfl⟩
abbrev main_while0b_v152 : Ref sig .tc := ⟨.hbm, 171, rfl⟩
abbrev main_while0b_v153 : Ref sig .tc := ⟨.hbm, 172, rfl⟩
abbrev main_while0b_v154 : Ref sig .tc := ⟨.hbm, 173, rfl⟩
abbrev main_while0b_v155 : Ref sig .tc := ⟨.hbm, 174, rfl⟩
abbrev main_while0b_v156 : Ref sig .tc := ⟨.hbm, 175, rfl⟩
abbrev main_while0b_call9_v0 : Ref sig .tc := ⟨.hbm, 176, rfl⟩
abbrev main_while0b_call9_c : Ref sig .tc := ⟨.hbm, 177, rfl⟩
abbrev main_while0b_call9_c_0 : Ref sig .tc := ⟨.hbm, 178, rfl⟩
abbrev main_while0b_call9_c_1 : Ref sig .tc := ⟨.hbm, 179, rfl⟩
abbrev main_while0b_call9_c_2 : Ref sig .tc := ⟨.hbm, 180, rfl⟩
abbrev main_while0b_v157 : Ref sig .tc := ⟨.hbm, 181, rfl⟩
abbrev main_while0b_c_12 : Ref sig .tc := ⟨.hbm, 182, rfl⟩
abbrev main_while0b_v158 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]

abbrev main_while0_count : Scf.Loop 32 := ⟨0#32, 8448#32, 1#32⟩
-- ==== Experts.lean ====
abbrev S71680x1024 : Shape := ⟨2, ![71680, 1024]⟩
abbrev S140 : Shape := ⟨1, ![140]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 10
  | .smem => 1
  | _ => 0

abbrev bufTy : (tb : Table) → Fin (tcTables nBuf tb) → BufTy
  | .hbm, ⟨0, _⟩ => ⟨S71680x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S71680x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S140, .i32⟩
  | _, _ => ⟨S71680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![140, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_15 : BitVec 32 := 0#32
  let v23 : BitVec 1 := Scalar.cmpi .ne v22 c0_i32_15
  v23

def k0_cond2 (i : grid0.Coords) : BitVec 1 :=
  let arg1 : BitVec 32 := BitVec.ofNat 32 (i 1).val
  let c0_i32_16 : BitVec 32 := 0#32
  let v24 : BitVec 1 := Scalar.cmpi .ne arg1 c0_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S140.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S140) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S71680x1024 : Shape := ⟨2, ![71680, 1024]⟩
abbrev S140 : Shape := ⟨1, ![140]⟩
abbrev S8x1024x3584 : Shape := ⟨3, ![8, 1024, 3584]⟩
abbrev S8x3584x1024 : Shape := ⟨3, ![8, 3584, 1024]⟩
abbrev S140x512x1024 : Shape := ⟨3, ![140, 512, 1024]⟩
abbrev S_ : Shape := ⟨0, ![]⟩
abbrev S140x1 : Shape := ⟨2, ![140, 1]⟩
abbrev S140x1024x3584 : Shape := ⟨3, ![140, 1024, 3584]⟩
abbrev S140x512x3584 : Shape := ⟨3, ![140, 512, 3584]⟩
abbrev S140x3584x1024 : Shape := ⟨3, ![140, 3584, 1024]⟩

abbrev nBuf : Space → Nat
  | .hbm => 50
  | .vmem => 0
  | .smem => 0
  | _ => 0

abbrev bufTy : (tb : Table) → Fin (tcTables nBuf tb) → BufTy
  | .hbm, ⟨0, _⟩ => ⟨S71680x1024, .f32⟩
  | .hbm, ⟨1, _⟩ => ⟨S140, .i32⟩
  | .hbm, ⟨2, _⟩ => ⟨S8x1024x3584, .bf16⟩
  | .hbm, ⟨3, _⟩ => ⟨S8x1024x3584, .bf16⟩
  | .hbm, ⟨4, _⟩ => ⟨S8x3584x1024, .bf16⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S140x512x1024, .f32⟩
  | .hbm, ⟨9, _⟩ => ⟨S_, .i32⟩
  | .hbm, ⟨10, _⟩ => ⟨S140, .i32⟩
  | .hbm, ⟨11, _⟩ => ⟨S140, .i1⟩
  | .hbm, ⟨12, _⟩ => ⟨S_, .i32⟩
  | .hbm, ⟨13, _⟩ => ⟨S140, .i32⟩
  | .hbm, ⟨14, _⟩ => ⟨S140, .i32⟩
  | .hbm, ⟨15, _⟩ => ⟨S140, .i32⟩
  | .hbm, ⟨16, _⟩ => ⟨S140x1, .i32⟩
  | .hbm, ⟨17, _⟩ => ⟨S140x1024x3584, .f32⟩
  | .hbm, ⟨18, _⟩ => ⟨S140x512x3584, .f32⟩
  | .hbm, ⟨19, _⟩ => ⟨S_, .i32⟩
  | .hbm, ⟨20, _⟩ => ⟨S140, .i32⟩
  | .hbm, ⟨21, _⟩ => ⟨S140, .i1⟩
  | .hbm, ⟨22, _⟩ => ⟨S_, .i32⟩
  | .hbm, ⟨23, _⟩ => ⟨S140, .i32⟩
  | .hbm, ⟨24, _⟩ => ⟨S140, .i32⟩
  | .hbm, ⟨25, _⟩ => ⟨S140, .i32⟩
  | .hbm, ⟨26, _⟩ => ⟨S140x1, .i32⟩
  | .hbm, ⟨27, _⟩ => ⟨S140x1024x3584, .f32⟩
  | .hbm, ⟨28, _⟩ => ⟨S140x512x3584, .f32⟩
  | .hbm, ⟨29, _⟩ => ⟨S140x512x3584, .f32⟩
  | .hbm, ⟨30, _⟩ => ⟨S140x512x3584, .f32⟩
  | .hbm, ⟨31, _⟩ => ⟨S_, .f32⟩
  | .hbm, ⟨32, _⟩ => ⟨S140x512x3584, .f32⟩
  | .hbm, ⟨33, _⟩ => ⟨S140x512x3584, .f32⟩
  | .hbm, ⟨34, _⟩ => ⟨S_, .f32⟩
  | .hbm, ⟨35, _⟩ => ⟨S140x512x3584, .f32⟩
  | .hbm, ⟨36, _⟩ => ⟨S140x512x3584, .f32⟩
  | .hbm, ⟨37, _⟩ => ⟨S140x512x3584, .f32⟩
  | .hbm, ⟨38, _⟩ => ⟨S140x512x3584, .f32⟩
  | .hbm, ⟨39, _⟩ => ⟨S_, .i32⟩
  | .hbm, ⟨40, _⟩ => ⟨S140, .i32⟩
  | .hbm, ⟨41, _⟩ => ⟨S140, .i1⟩
  | .hbm, ⟨42, _⟩ => ⟨S_, .i32⟩
  | .hbm, ⟨43, _⟩ => ⟨S140, .i32⟩
  | .hbm, ⟨44, _⟩ => ⟨S140, .i32⟩
  | .hbm, ⟨45, _⟩ => ⟨S140, .i32⟩
  | .hbm, ⟨46, _⟩ => ⟨S140x1, .i32⟩
  | .hbm, ⟨47, _⟩ => ⟨S140x3584x1024, .f32⟩
  | .hbm, ⟨48, _⟩ => ⟨S140x512x1024, .f32⟩
  | .hbm, ⟨49, _⟩ => ⟨S71680x1024, .f32⟩
  | _, _ => ⟨S71680x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== FeedForward.lean ====
abbrev S4x8448x1024 : Shape := ⟨3, ![4, 8448, 1024]⟩
abbrev S4x2x6x1024 : Shape := ⟨4, ![4, 2, 6, 1024]⟩
abbrev S1024x2816 : Shape := ⟨2, ![1024, 2816]⟩
abbrev S2816x1024 : Shape := ⟨2, ![2816, 1024]⟩
abbrev S2x1024 : Shape := ⟨2, ![2, 1024]⟩
abbrev S1x256x1024 : Shape := ⟨3, ![1, 256, 1024]⟩
abbrev S1x1x6x1024 : Shape := ⟨4, ![1, 1, 6, 1024]⟩
abbrev S6x1024 : Shape := ⟨2, ![6, 1024]⟩
abbrev S256x1024 : Shape := ⟨2, ![256, 1024]⟩
abbrev S1x1024 : Shape := ⟨2, ![1, 1024]⟩
abbrev S256x2816 : Shape := ⟨2, ![256, 2816]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4x8448x1024, .f32⟩
  | .hbm, ⟨1, _⟩ => ⟨S4x2x6x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S2x1024, .f32⟩
  | .hbm, ⟨6, _⟩ => ⟨S4x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S2x1024, .f32⟩
  | .local _ .vmem, ⟨8, _⟩ => ⟨S1x256x1024, .f32⟩
  | .local _ .vmem, ⟨9, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FeedForwardReferenceIdeal.lean ====
abbrev S4x8448x1024 : Shape := ⟨3, ![4, 8448, 1024]⟩
abbrev S4x2x6x1024 : Shape := ⟨4, ![4, 2, 6, 1024]⟩
abbrev S1024x2816 : Shape := ⟨2, ![1024, 2816]⟩
abbrev S2816x1024 : Shape := ⟨2, ![2816, 1024]⟩
abbrev S2x1024 : Shape := ⟨2, ![2, 1024]⟩
abbrev S4x256x1024 : Shape := ⟨3, ![4, 256, 1024]⟩
abbrev S4x1x6x1024 : Shape := ⟨4, ![4, 1, 6, 1024]⟩
abbrev S4x6x1024 : Shape := ⟨3, ![4, 6, 1024]⟩
abbrev S4x1x1024 : Shape := ⟨3, ![4, 1, 1024]⟩
abbrev S_ : Shape := ⟨0, ![]⟩
abbrev S4x256x2816 : Shape := ⟨3, ![4, 256, 2816]⟩
abbrev S1x1024 : Shape := ⟨2, ![1, 1024]⟩
abbrev S1024 : Shape := ⟨1, ![1024]⟩
abbrev S4x256 : Shape := ⟨2, ![4, 256]⟩
abbrev S4x256x1 : Shape := ⟨3, ![4, 256, 1]⟩
abbrev S1x1x1024 : Shape := ⟨3, ![1, 1, 1024]⟩
abbrev S4x8192x1024 : Shape := ⟨3, ![4, 8192, 1024]⟩
abbrev S4x8192x2816 : Shape := ⟨3, ![4, 8192, 2816]⟩
abbrev S4x8192 : Shape := ⟨2, ![4, 8192]⟩
abbrev S4x8192x1 : Shape := ⟨3, ![4, 8192, 1]⟩

abbrev nBuf : Space → Nat
  | .hbm => 140
  | .vmem => 0
  | .smem => 0
  | _ => 0

abbrev hbmTy0_0 (i : Nat) : BufTy := match i % 128 with
  | 0 => ⟨S4x8448x1024, .f32⟩
  | 1 => ⟨S4x2x6x1024, .f32⟩
  | 2 => ⟨S1024x2816, .bf16⟩
  | 3 => ⟨S1024x2816, .bf16⟩
  | 4 => ⟨S2816x1024, .bf16⟩
  | 5 => ⟨S2x1024, .f32⟩
  | 6 => ⟨S1024x2816, .f32⟩
  | 7 => ⟨S1024x2816, .f32⟩
  | 8 => ⟨S2816x1024, .f32⟩
  | 9 => ⟨S4x256x1024, .f32⟩
  | 10 => ⟨S4x1x6x1024, .f32⟩
  | 11 => ⟨S4x6x1024, .f32⟩
  | 12 => ⟨S4x1x1024, .f32⟩
  | 13 => ⟨S4x1x1024, .f32⟩
  | 14 => ⟨S4x1x1024, .f32⟩
  | 15 => ⟨S_, .f32⟩
  | 16 => ⟨S4x1x1024, .f32⟩
  | 17 => ⟨S4x1x1024, .f32⟩
  | 18 => ⟨S4x256x1024, .f32⟩
  | 19 => ⟨S4x256x1024, .f32⟩
  | 20 => ⟨S4x256x1024, .f32⟩
  | 21 => ⟨S4x256x1024, .f32⟩
  | 22 => ⟨S_, .f32⟩
  | 23 => ⟨S4x256x1024, .f32⟩
  | 24 => ⟨S4x256x1024, .f32⟩
  | 25 => ⟨S4x256x2816, .f32⟩
  | 26 => ⟨S4x256x2816, .f32⟩
  | 27 => ⟨S4x256x2816, .f32⟩
  | 28 => ⟨S_, .f32⟩
  | 29 => ⟨S4x256x2816, .f32⟩
  | 30 => ⟨S4x256x2816, .f32⟩
  | 31 => ⟨S_, .f32⟩
  | 32 => ⟨S4x256x2816, .f32⟩
  | 33 => ⟨S4x256x2816, .f32⟩
  | 34 => ⟨S4x256x2816, .f32⟩
  | 35 => ⟨S4x256x2816, .f32⟩
  | 36 => ⟨S4x256x2816, .f32⟩
  | 37 => ⟨S4x256x1024, .f32⟩
  | 38 => ⟨S4x256x1024, .f32⟩
  | 39 => ⟨S4x256x1024, .f32⟩
  | 40 => ⟨S4x256x1024, .f32⟩
  | 41 => ⟨S1x1024, .f32⟩
  | 42 => ⟨S1024, .f32⟩
  | 43 => ⟨S1x1024, .f32⟩
  | 44 => ⟨S1024, .f32⟩
  | 45 => ⟨S_, .f32⟩
  | 46 => ⟨S4x256, .f32⟩
  | 47 => ⟨S4x256x1, .f32⟩
  | 48 => ⟨S_, .f32⟩
  | 49 => ⟨S4x256x1, .f32⟩
  | 50 => ⟨S4x256x1, .f32⟩
  | 51 => ⟨S4x256x1024, .f32⟩
  | 52 => ⟨S4x256x1024, .f32⟩
  | 53 => ⟨S4x256x1024, .f32⟩
  | 54 => ⟨S_, .f32⟩
  | 55 => ⟨S4x256, .f32⟩
  | 56 => ⟨S4x256x1, .f32⟩
  | 57 => ⟨S_, .f32⟩
  | 58 => ⟨S4x256x1, .f32⟩
  | 59 => ⟨S4x256x1, .f32⟩
  | 60 => ⟨S4x256x1024, .f32⟩
  | 61 => ⟨S4x256x1024, .f32⟩
  | 62 => ⟨S_, .f32⟩
  | 63 => ⟨S4x256x1, .f32⟩
  | 64 => ⟨S4x256x1, .f32⟩
  | 65 => ⟨S4x256x1, .f32⟩
  | 66 => ⟨S4x256x1024, .f32⟩
  | 67 => ⟨S4x256x1024, .f32⟩
  | 68 => ⟨S1x1x1024, .f32⟩
  | 69 => ⟨S4x256x1024, .f32⟩
  | 70 => ⟨S4x256x1024, .f32⟩
  | 71 => ⟨S1x1x1024, .f32⟩
  | 72 => ⟨S4x256x1024, .f32⟩
  | 73 => ⟨S4x256x1024, .f32⟩
  | 74 => ⟨S4x8192x1024, .f32⟩
  | 75 => ⟨S4x1x6x1024, .f32⟩
  | 76 => ⟨S4x6x1024, .f32⟩
  | 77 => ⟨S4x1x1024, .f32⟩
  | 78 => ⟨S4x1x1024, .f32⟩
  | 79 => ⟨S4x1x1024, .f32⟩
  | 80 => ⟨S_, .f32⟩
  | 81 => ⟨S4x1x1024, .f32⟩
  | 82 => ⟨S4x1x1024, .f32⟩
  | 83 => ⟨S4x8192x1024, .f32⟩
  | 84 => ⟨S4x8192x1024, .f32⟩
  | 85 => ⟨S4x8192x1024, .f32⟩
  | 86 => ⟨S4x8192x1024, .f32⟩
  | 87 => ⟨S_, .f32⟩
  | 88 => ⟨S4x8192x1024, .f32⟩
  | 89 => ⟨S4x8192x1024, .f32⟩
  | 90 => ⟨S4x8192x2816, .f32⟩
  | 91 => ⟨S4x8192x2816, .f32⟩
  | 92 => ⟨S4x8192x2816, .f32⟩
  | 93 => ⟨S_, .f32⟩
  | 94 => ⟨S4x8192x2816, .f32⟩
  | 95 => ⟨S4x8192x2816, .f32⟩
  | 96 => ⟨S_, .f32⟩
  | 97 => ⟨S4x8192x2816, .f32⟩
  | 98 => ⟨S4x8192x2816, .f32⟩
  | 99 => ⟨S4x8192x2816, .f32⟩
  | 100 => ⟨S4x8192x2816, .f32⟩
  | 101 => ⟨S4x8192x2816, .f32⟩
  | 102 => ⟨S4x8192x1024, .f32⟩
  | 103 => ⟨S4x8192x1024, .f32⟩
  | 104 => ⟨S4x8192x1024, .f32⟩
  | 105 => ⟨S4x8192x1024, .f32⟩
  | 106 => ⟨S1x1024, .f32⟩
  | 107 => ⟨S1024, .f32⟩
  | 108 => ⟨S1x1024, .f32⟩
  | 109 => ⟨S1024, .f32⟩
  | 110 => ⟨S_, .f32⟩
  | 111 => ⟨S4x8192, .f32⟩
  | 112 => ⟨S4x8192x1, .f32⟩
  | 113 => ⟨S_, .f32⟩
  | 114 => ⟨S4x8192x1, .f32⟩
  | 115 => ⟨S4x8192x1, .f32⟩
  | 116 => ⟨S4x8192x1024, .f32⟩
  | 117 => ⟨S4x8192x1024, .f32⟩
  | 118 => ⟨S4x8192x1024, .f32⟩
  | 119 => ⟨S_, .f32⟩
  | 120 => ⟨S4x8192, .f32⟩
  | 121 => ⟨S4x8192x1, .f32⟩
  | 122 => ⟨S_, .f32⟩
  | 123 => ⟨S4x8192x1, .f32⟩
  | 124 => ⟨S4x8192x1, .f32⟩
  | 125 => ⟨S4x8192x1024, .f32⟩
  | 126 => ⟨S4x8192x1024, .f32⟩
  | 127 => ⟨S_, .f32⟩
  | _ => ⟨S4x8448x1024, .f32⟩

abbrev hbmTy0_1 (i : Nat) : BufTy := match i % 128 with
  | 0 => ⟨S4x8192x1, .f32⟩
  | 1 => ⟨S4x8192x1, .f32⟩
  | 2 => ⟨S4x8192x1, .f32⟩
  | 3 => ⟨S4x8192x1024, .f32⟩
  | 4 => ⟨S4x8192x1024, .f32⟩
  | 5 => ⟨S1x1x1024, .f32⟩
  | 6 => ⟨S4x8192x1024, .f32⟩
  | 7 => ⟨S4x8192x1024, .f32⟩
  | 8 => ⟨S1x1x1024, .f32⟩
  | 9 => ⟨S4x8192x1024, .f32⟩
  | 10 => ⟨S4x8192x1024, .f32⟩
  | 11 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_6 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_7 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_8 : Ref sig .tc := ⟨.hbm, 110, rfl⟩
abbrev main_v79 : Ref sig .tc := ⟨.hbm, 111, rfl⟩
abbrev main_v80 : Ref sig .tc := ⟨.hbm, 112, rfl⟩
abbrev main_cst_9 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_10 : Ref sig .tc := ⟨.hbm, 119, rfl⟩
abbrev main_v86 : Ref sig .tc := ⟨.hbm, 120, rfl⟩
abbrev main_v87 : Ref sig .tc := ⟨.hbm, 121, rfl⟩
abbrev main_cst_11 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_12 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== InProjection.lean ====
abbrev S4x8448x1024 : Shape := ⟨3, ![4, 8448, 1024]⟩
abbrev S4x2x6x1024 : Shape := ⟨4, ![4, 2, 6, 1024]⟩
abbrev S1024x4224 : Shape := ⟨2, ![1024, 4224]⟩
abbrev S4x8448x128 : Shape := ⟨3, ![4, 8448, 128]⟩
abbrev S4x8448x256 : Shape := ⟨3, ![4, 8448, 256]⟩
abbrev S4x8448x1280 : Shape := ⟨3, ![4, 8448, 1280]⟩
abbrev S4x8448x1536 : Shape := ⟨3, ![4, 8448, 1536]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S1x256x256 : Shape := ⟨3, ![1, 256, 256]⟩
abbrev S1x256x1280 : Shape := ⟨3, ![1, 256, 1280]⟩
abbrev S1x256x1536 : Shape := ⟨3, ![1, 256, 1536]⟩
abbrev S6x1024 : Shape := ⟨2, ![6, 1024]⟩
abbrev S256x1024 : Shape := ⟨2, ![256, 1024]⟩
abbrev S1x1024 : Shape := ⟨2, ![1, 1024]⟩
abbrev S1024x1024 : Shape := ⟨2, ![1024, 1024]⟩
abbrev S1024x128 : Shape := ⟨2, ![1024, 128]⟩
abbrev S256x128 : Shape := ⟨2, ![256, 128]⟩
abbrev S1024x256 : Shape := ⟨2, ![1024, 256]⟩
abbrev S256x256 : Shape := ⟨2, ![256, 256]⟩
abbrev S1024x1280 : Shape := ⟨2, ![1024, 1280]⟩
abbrev S256x1280 : Shape := ⟨2, ![256, 1280]⟩
abbrev S1024x1536 : Shape := ⟨2, ![1024, 1536]⟩
abbrev S256x1536 : Shape := ⟨2, ![256, 1536]⟩

abbrev nBuf : Space → Nat
  | .hbm => 8
  | .vmem => 15
  | .smem => 0
  | _ => 0

abbrev bufTy : (tb : Table) → Fin (tcTables nBuf tb) → BufTy
  | .hbm, ⟨0, _⟩ => ⟨S4x8448x1024, .f32⟩
  | .hbm, ⟨1, _⟩ => ⟨S4x2x6x1024, .f32⟩
  | .hbm, ⟨2, _⟩ => ⟨S1024x4224, .bf16⟩
  | .hbm, ⟨3, _⟩ => ⟨S4x8448x1024, .f32⟩
  | .hbm, ⟨4, _⟩ => ⟨S4x8448x128, .f32⟩
  | .hbm, ⟨5, _⟩ => ⟨S4x8448x256, .bf16⟩
  | .hbm, ⟨6, _⟩ => ⟨S4x8448x1280, .f32⟩
  | .hbm, ⟨7, _⟩ => ⟨S4x8448x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1024x4224, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x128, .f32⟩
  | .local _ .vmem, ⟨8, _⟩ => ⟨S1x256x128, .f32⟩
  | .local _ .vmem, ⟨9, _⟩ => ⟨S1x256x256, .bf16⟩
  | .local _ .vmem, ⟨10, _⟩ => ⟨S1x256x256, .bf16⟩
  | .local _ .vmem, ⟨11, _⟩ => ⟨S1x256x1280, .f32⟩
  | .local _ .vmem, ⟨12, _⟩ => ⟨S1x256x1280, .f32⟩
  | .local _ .vmem, ⟨13, _⟩ => ⟨S1x256x1536, .f32⟩
  | .local _ .vmem, ⟨14, _⟩ => ⟨S1x256x1536, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjectionReferenceIdeal.lean ====
abbrev S4x8448x1024 : Shape := ⟨3, ![4, 8448, 1024]⟩
abbrev S4x2x6x1024 : Shape := ⟨4, ![4, 2, 6, 1024]⟩
abbrev S1024x4224 : Shape := ⟨2, ![1024, 4224]⟩
abbrev S4x256x1024 : Shape := ⟨3, ![4, 256, 1024]⟩
abbrev S4x1x6x1024 : Shape := ⟨4, ![4, 1, 6, 1024]⟩
abbrev S4x6x1024 : Shape := ⟨3, ![4, 6, 1024]⟩
abbrev S4x1x1024 : Shape := ⟨3, ![4, 1, 1024]⟩
abbrev S_ : Shape := ⟨0, ![]⟩
abbrev S4x256x4224 : Shape := ⟨3, ![4, 256, 4224]⟩
abbrev S4x8192x1024 : Shape := ⟨3, ![4, 8192, 1024]⟩
abbrev S4x8192x4224 : Shape := ⟨3, ![4, 8192, 4224]⟩
abbrev S4x8448x4224 : Shape := ⟨3, ![4, 8448, 4224]⟩
abbrev S4x8448x128 : Shape := ⟨3, ![4, 8448, 128]⟩
abbrev S4x8448x256 : Shape := ⟨3, ![4, 8448, 256]⟩
abbrev S4x8448x1280 : Shape := ⟨3, ![4, 8448, 1280]⟩
abbrev S4x8448x1536 : Shape := ⟨3, ![4, 8448, 1536]⟩

abbrev nBuf : Space → Nat
  | .hbm => 37
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x2x6x1024, .f32⟩
  | .hbm, ⟨2, _⟩ => ⟨S1024x4224, .bf16⟩
  | .hbm, ⟨3, _⟩ => ⟨S1024x4224, .f32⟩
  | .hbm, ⟨4, _⟩ => ⟨S4x256x1024, .f32⟩
  | .hbm, ⟨5, _⟩ => ⟨S4x1x6x1024, .f32⟩
  | .hbm, ⟨6, _⟩ => ⟨S4x6x1024, .f32⟩
  | .hbm, ⟨7, _⟩ => ⟨S4x1x1024, .f32⟩
  | .hbm, ⟨8, _⟩ => ⟨S_, .f32⟩
  | .hbm, ⟨9, _⟩ => ⟨S4x1x1024, .f32⟩
  | .hbm, ⟨10, _⟩ => ⟨S4x1x1024, .f32⟩
  | .hbm, ⟨11, _⟩ => ⟨S4x256x1024, .f32⟩
  | .hbm, ⟨12, _⟩ => ⟨S4x256x1024, .f32⟩
  | .hbm, ⟨13, _⟩ => ⟨S4x1x1024, .f32⟩
  | .hbm, ⟨14, _⟩ => ⟨S4x256x1024, .f32⟩
  | .hbm, ⟨15, _⟩ => ⟨S4x256x1024, .f32⟩
  | .hbm, ⟨16, _⟩ => ⟨S4x256x4224, .f32⟩
  | .hbm, ⟨17, _⟩ => ⟨S4x8192x1024, .f32⟩
  | .hbm, ⟨18, _⟩ => ⟨S4x1x6x1024, .f32⟩
  | .hbm, ⟨19, _⟩ => ⟨S4x6x1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x4224, .f32⟩
  | .hbm, ⟨30, _⟩ => ⟨S4x8448x4224, .f32⟩
  | .hbm, ⟨31, _⟩ => ⟨S4x8448x1024, .f32⟩
  | .hbm, ⟨32, _⟩ => ⟨S4x8448x128, .f32⟩
  | .hbm, ⟨33, _⟩ => ⟨S4x8448x256, .f32⟩
  | .hbm, ⟨34, _⟩ => ⟨S4x8448x1280, .f32⟩
  | .hbm, ⟨35, _⟩ => ⟨S4x8448x1536, .f32⟩
  | .hbm, ⟨36, _⟩ => ⟨S4x8448x256, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.FeedForwardRow.lean ====
module
public import proofs.«01_k».proof.Proof.Gen.FeedForwardIdeal.Value
public import proofs.«01_k».proof.Proof.Gen.FeedForwardReferenceIdeal.Run
public import Idealize.ShloMosaic.Lib.Pointwise
public import Idealize.ShloMosaic.Lib.Pipeline.ValueKit
@[expose] public section
set_option maxRecDepth 16384
noncomputable section
namespace Cert.FeedForward
open Idealize.ShloMosaic Idealize.ShloMosaic.TcCoe Idealize.SL.Sem
open Cert.FeedForwardIdeal.Gen (k0_pay1 k0_pay2 k0_pay3 k0_pay4)

/-- A token's row scaled and shifted by its modulation. -/
def modulated (x shift scale : Fin 1024 → EReal) (k : Fin 1024) : EReal := x k * (1 + scale k) + shift k

/-- A modulated row times an expanding weight matrix. -/
def expanded (h : Fin 1024 → EReal) (W : Cert.FeedForwardIdeal.S1024x2816.Idx → EReal) (n : Fin 2816) : EReal :=
  ∑ k : Fin 1024, h k * W (ix2 k n)

/-- The gated hidden row: silu of the first expansion times the second. -/
def hidden (h : Fin 1024 → EReal) (W1 W3 : Cert.FeedForwardIdeal.S1024x2816.Idx → EReal) (n : Fin 2816) : EReal :=
  expanded h W1 n * Ideal.div 1 (1 + Ideal.exp (-expanded h W1 n)) * expanded h W3 n

/-- The residual row: alpha times the token plus the gated contraction of the hidden row. -/
def residual (x shift scale gate : Fin 1024 → EReal) (W1 W3 : Cert.FeedForwardIdeal.S1024x2816.Idx → EReal)
    (W2 : Cert.FeedForwardIdeal.S2816x1024.Idx → EReal) (j : Fin 1024) : EReal :=
  Ideal.ofBits FTy.f32 1071072509#32 * x j
    + gate j * ∑ n : Fin 2816, hidden (modulated x shift scale) W1 W3 n * W2 (ix2 n j)

/-- The mean of a row of 1024. -/
def mean (u : Fin 1024 → EReal) : EReal := Ideal.div (∑ k, u k) (Ideal.ofBits FTy.f32 1149239296#32)

/-- Layer norm of a row, with its weight and bias. -/
def normed (u : Fin 1024 → EReal) (ln : Cert.FeedForwardIdeal.S2x1024.Idx → EReal) (j : Fin 1024) : EReal :=
  (u j - mean u) * Ideal.rsqrt (mean (fun k => (u k - mean u) * (u k - mean u)) + Ideal.ofBits FTy.f32 925353388#32)
    * ln (ix2 0 j) + ln (ix2 1 j)

/-- What the kernel's body computes at row `i` of its block, column `j`. -/
theorem body_row (P0 : Vec Ideal Cert.FeedForwardIdeal.S1x256x1024 .f32) (P1 : Vec Ideal Cert.FeedForwardIdeal.S1x1x6x1024 .f32)
    (P2 P3 : Vec Ideal Cert.FeedForwardIdeal.S1024x2816 .bf16) (P4 : Vec Ideal Cert.FeedForwardIdeal.S2816x1024 .bf16)
    (P5 : Vec Ideal Cert.FeedForwardIdeal.S2x1024 .f32) (i : Fin 256) (j : Fin 1024) :
    k0_pay1 P5 (k0_pay3 P0) (k0_pay4 P1 P0 P2 P3 P4) (ix3 (0 : Fin 1) i j)
      = normed (residual (fun k => P0 (ix3 0 i k)) (fun k => P1 (ix4 0 0 3 k)) (fun k => P1 (ix4 0 0 4 k))
          (fun k => P1 (ix4 0 0 5 k)) P2 P3 P4) P5 j := by
  have h3 : ∀ k : Fin 1024, k0_pay3 P0 (ix2 i k) = Ideal.ofBits FTy.f32 1071072509#32 * P0 (ix3 0 i k) := by
    intro k; pointwise [k0_pay3, k0_pay2]
  have h4 : ∀ k : Fin 1024, k0_pay4 P1 P0 P2 P3 P4 (ix2 i k) = P1 (ix4 0 0 5 k) * ∑ n : Fin 2816,
      hidden (modulated (fun k => P0 (ix3 0 i k)) (fun k => P1 (ix4 0 0 3 k)) (fun k => P1 (ix4 0 0 4 k))) P2 P3 n * P4 (ix2 n k) := by
    intro k; pointwise [k0_pay4, k0_pay2]; simp only [zero_sub, hidden, expanded, modulated]
  pointwise [k0_pay1]
  simp only [h3, h4, normed, mean, residual]

/-- Which of the two modulation rows a token reads: the first for the 256 context tokens, else the second. -/
def part (t : Fin 8448) : Fin 2 := if t.val < 256 then 0 else 1

/-- The feed-forward sublayer of every token, as a function of the six arguments. -/
def result (x : Cert.FeedForwardIdeal.S4x8448x1024.Idx → EReal) (md : Cert.FeedForwardIdeal.S4x2x6x1024.Idx → EReal)
    (W1 W3 : Cert.FeedForwardIdeal.S1024x2816.Idx → EReal) (W2 : Cert.FeedForwardIdeal.S2816x1024.Idx → EReal)
    (ln : Cert.FeedForwardIdeal.S2x1024.Idx → EReal) (b : Fin 4) (t : Fin 8448) (j : Fin 1024) : EReal :=
  normed (residual (fun k => x (ix3 b t k)) (fun k => md (ix4 b (part t) 3 k)) (fun k => md (ix4 b (part t) 4 k))
    (fun k => md (ix4 b (part t) 5 k)) W1 W3 W2) ln j

open Cert.FeedForwardReferenceIdeal.Value Cert.FeedForwardReferenceIdeal in
/-- The reference's result is the sublayer of every token. -/
theorem reference_result (m : (ℓ : Loc nD τ sig) → Buf (Elt Ideal) ℓ) (c : Dev nD) (b : Fin 4) (t : Fin 8448) (j : Fin 1024) :
    (res_main_v103 m c : S4x8448x1024.Idx → EReal) (ix3 b t j)
      = result (m (c.tc.loc main_arg0)) (m (c.tc.loc main_arg1)) (m (c.tc.loc main_arg2)) (m (c.tc.loc main_arg3))
          (m (c.tc.loc main_arg4)) (m (c.tc.loc main_arg5)) b t j := by
  pointwise [res_main_v103]
  by_cases ht : t.val < 256
  · simp only [dif_pos ht, result, part, if_pos ht, normed, mean, residual, hidden, expanded, modulated]
  · have e : (⟨256 + (t.val - 256), by omega⟩ : Fin 8448) = t := Fin.ext (by show 256 + (t.val - 256) = t.val; omega)
    simp only [dif_neg ht, e, result, part, if_neg ht, normed, mean, residual, hidden, expanded, modulated]

open Cert.FeedForwardIdeal Cert.FeedForwardIdeal.Gen

/-- The blocks each window stages at a point, in closed form. -/
theorem index_of : ∀ t : Fin grid0.N, win0_0.index t = ![t.val / 33, t.val % 33, 0]
    ∧ win0_1.index t = ![t.val / 33, min (t.val % 33) 1, 0, 0] ∧ win0_2.index t = ![0, 0] ∧ win0_3.index t = ![0, 0]
    ∧ win0_4.index t = ![0, 0] ∧ win0_5.index t = ![0, 0] ∧ win0_6.index t = ![t.val / 33, t.val % 33, 0] := by
  decide +kernel

end Cert.FeedForward
end
-- ==== Proof.FeedForwardValue.lean ====
module
public import proofs.«01_k».proof.Proof.FeedForwardRow
@[expose] public section
set_option maxRecDepth 16384
noncomputable section
namespace Cert.FeedForward
open Idealize.ShloMosaic Idealize.ShloMosaic.TcCoe Idealize.SL.Sem
open Cert.FeedForwardIdeal Cert.FeedForwardIdeal.Gen

/-- The result window's blocks tile the result array. -/
theorem covers : (cfg0.win 6).Covers := by decide +kernel

/-- The kernel's result array is the sublayer of every token. -/
theorem kernel_result (m : (ℓ : Loc nD τ sig) → Buf (Elt Ideal) ℓ) (c : Dev nD) :
    (dats m 0 c).arrAt 6 cfg0.N = fun i => result (m (c.tc.loc main_arg0)) (m (c.tc.loc main_arg1)) (m (c.tc.loc main_arg2))
      (m (c.tc.loc main_arg3)) (m (c.tc.loc main_arg4)) (m (c.tc.loc main_arg5)) (i 0) (i 1) (i 2) := by
  refine (dats m 0 c).arrAt_eq_of_covers 6 _ covers fun t hf y => ?_
  blk_simp
  rw [after0_6]
  frame_out
  obtain ⟨y, rfl⟩ : ∃ y' : S1x256x1024.Idx, y' = y := ⟨y, rfl⟩
  idx_vars y
  obtain rfl : y0 = 0 := Subsingleton.elim _ _
  obtain ⟨e0, e1, e2, e3, e4, e5, e6⟩ := index_of t
  have ht : t.val < 132 := t.isLt
  have hb : ((View.whole main_v0).slice (win0_6.rect t)).emb (ix3 0 y1 y2)
      = ix3 (⟨t.val / 33, by omega⟩ : Fin 4) (⟨t.val % 33 * 256 + y1.val, by omega⟩ : Fin 8448) y2 := by
    blk_ext [e6]
  have hp : (part ⟨t.val % 33 * 256 + y1.val, by omega⟩).val = min (t.val % 33) 1 := by
    unfold part; split <;> rename_i h <;> simp only [] at h ⊢ <;> omega
  rw [body_row, hb]
  have h0 : ∀ k : Fin 1024, iblk m c 0 t (ix3 0 y1 k)
      = m (c.tc.loc main_arg0) (ix3 (⟨t.val / 33, by omega⟩ : Fin 4) (⟨t.val % 33 * 256 + y1.val, by omega⟩ : Fin 8448) k) := by
    intro k; blk_ext [iblk, V, e0]
  have h1 : ∀ (r : Fin 6) (k : Fin 1024), iblk m c 1 t (ix4 0 0 r k)
      = m (c.tc.loc main_arg1) (ix4 (⟨t.val / 33, by omega⟩ : Fin 4) (part ⟨t.val % 33 * 256 + y1.val, by omega⟩) r k) := by
    intro r k; blk_ext [iblk, V, e1, hp]
  have h2 : iblk m c 2 t = m (c.tc.loc main_arg2) := by funext k; blk_ext [iblk, V, e2]
  have h3 : iblk m c 3 t = m (c.tc.loc main_arg3) := by funext k; blk_ext [iblk, V, e3]
  have h4 : iblk m c 4 t = m (c.tc.loc main_arg4) := by funext k; blk_ext [iblk, V, e4]
  have h5 : iblk m c 5 t = m (c.tc.loc main_arg5) := by funext k; blk_ext [iblk, V, e5]
  simp only [h0, h1]
  rw [h2, h3, h4, h5]
  rfl
end Cert.FeedForward
end
-- ==== Proof.InProjectionValue.lean ====
module
public import proofs.«01_k».proof.Proof.Gen.InProjectionIdeal.Value
public import proofs.«01_k».proof.Proof.Gen.InProjectionReferenceIdeal.Run
public import proofs.«01_k».proof.Proof.FeedForwardRow
@[expose] public section
set_option maxRecDepth 16384
noncomputable section
namespace Cert.InProjection
open Idealize.ShloMosaic Idealize.ShloMosaic.TcCoe Idealize.SL.Sem
open Cert.FeedForward (modulated part)
open Cert.InProjectionIdeal Cert.InProjectionIdeal.Gen

/-- Column `n` of a token's projection: its modulated row times column `n` of the joined weight matrix. -/
def projected (x : S4x8448x1024.Idx → EReal) (md : S4x2x6x1024.Idx → EReal) (W : S1024x4224.Idx → EReal)
    (b : Fin 4) (t : Fin 8448) (n : Fin 4224) : EReal :=
  ∑ k : Fin 1024, modulated (fun k => x (ix3 b t k)) (fun k => md (ix4 b (part t) 0 k)) (fun k => md (ix4 b (part t) 1 k)) k * W (ix2 k n)

/-- The modulated row that every product of the kernel's body reads. -/
theorem body_row (P0 : Vec Ideal S1x256x1024 .f32) (P1 : Vec Ideal S1x1x6x1024 .f32) (i : Fin 256) (k : Fin 1024) :
    k0_pay3 P1 P0 (ix2 i k) = modulated (fun k => P0 (ix3 0 i k)) (fun k => P1 (ix4 0 0 0 k)) (fun k => P1 (ix4 0 0 1 k)) k := by
  pointwise [k0_pay3]; simp only [modulated]

/-- The body's shared modulated block reads its two operands whole. -/
theorem shared_eq (x0 : Vec Ideal S1x256x1024 .f32) (x1 : Vec Ideal S1x1x6x1024 .f32) (x2 : Vec Ideal S1024x4224 .bf16) :
    k0_pay7 x0 x1 x2 = k0_pay3 x1 x0 := by
  unfold k0_pay7
  frame_out

/-- The blocks each window stages at a point, in closed form. -/
theorem index_of : ∀ t : Fin grid0.N, win0_0.index t = ![t.val / 33, t.val % 33, 0]
    ∧ win0_1.index t = ![t.val / 33, min (t.val % 33) 1, 0, 0] ∧ win0_2.index t = ![0, 0]
    ∧ win0_3.index t = ![t.val / 33, t.val % 33, 0] ∧ win0_4.index t = ![t.val / 33, t.val % 33, 0]
    ∧ win0_5.index t = ![t.val / 33, t.val % 33, 0] ∧ win0_6.index t = ![t.val / 33, t.val % 33, 0]
    ∧ win0_7.index t = ![t.val / 33, t.val % 33, 0] := by
  decide +kernel

section kernel
variable (m : (ℓ : Loc nD τ sig) → Buf (Elt Ideal) ℓ) (c : Dev nD)

/-- The modulated row of a block is the modulated row of the token it holds. -/
theorem block_row (t : Fin cfg0.N) (i : Fin 256) (k : Fin 1024) :
    k0_pay3 (iblk m c 1 t) (iblk m c 0 t) (ix2 i k)
      = modulated (fun k => m (c.tc.loc main_arg0) (ix3 (⟨t.val / 33, by have : t.val < 132 := t.isLt; omega⟩ : Fin 4) (⟨t.val % 33 * 256 + i.val, by omega⟩ : Fin 8448) k))
          (fun k => m (c.tc.loc main_arg1) (ix4 (⟨t.val / 33, by have : t.val < 132 := t.isLt; omega⟩ : Fin 4) (part ⟨t.val % 33 * 256 + i.val, by omega⟩) 0 k))
          (fun k => m (c.tc.loc main_arg1) (ix4 (⟨t.val / 33, by have : t.val < 132 := t.isLt; omega⟩ : Fin 4) (part ⟨t.val % 33 * 256 + i.val, by omega⟩) 1 k)) k := by
  obtain ⟨e0, e1, -⟩ := index_of t
  have ht : t.val < 132 := t.isLt
  have hp : (part ⟨t.val % 33 * 256 + i.val, by omega⟩).val = min (t.val % 33) 1 := by
    unfold part; split <;> rename_i h <;> simp only [] at h ⊢ <;> omega
  have h0 : ∀ k : Fin 1024, iblk m c 0 t (ix3 0 i k)
      = m (c.tc.loc main_arg0) (ix3 (⟨t.val / 33, by omega⟩ : Fin 4) (⟨t.val % 33 * 256 + i.val, by omega⟩ : Fin 8448) k) := by
    intro k; blk_ext [iblk, V, e0]
  have h1 : ∀ (r : Fin 6) (k : Fin 1024), iblk m c 1 t (ix4 0 0 r k)
      = m (c.tc.loc main_arg1) (ix4 (⟨t.val / 33, by omega⟩ : Fin 4) (part ⟨t.val % 33 * 256 + i.val, by omega⟩) r k) := by
    intro r k; blk_ext [iblk, V, e1, hp]
  rw [body_row]
  simp only [h0, h1]

/-- The weight window stages the whole joined matrix at every point. -/
theorem block_weight (t : Fin cfg0.N) : iblk m c 2 t = m (c.tc.loc main_arg2) := by
  obtain ⟨-, -, e2, -⟩ := index_of t
  funext k; blk_ext [iblk, V, e2]

/-- The projection's 1024 columns from 0 on, as an array. -/
def columns_1024 (x : S4x8448x1024.Idx → EReal) (md : S4x2x6x1024.Idx → EReal) (W : S1024x4224.Idx → EReal) (i : S4x8448x1024.Idx) : EReal :=
  projected x md W (i 0) (i 1) ⟨(i 2).val, by have : (i 2).val < 1024 := (i 2).isLt; omega⟩

/-- The result window of width 1024 holds the projection's columns from 0. -/
theorem kernel_1024 : (dats m 0 c).arrAt 3 cfg0.N = columns_1024 (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  obtain ⟨y, rfl⟩ : ∃ y' : S1x256x1024.Idx, y' = y := ⟨y, rfl⟩
  idx_vars y
  obtain rfl : y0 = 0 := Subsingleton.elim _ _
  obtain ⟨e0, e1, e2, e3, e4, e5, e6, e7⟩ := index_of t
  have ht : t.val < 132 := t.isLt
  have hb : ((View.whole main_v0_0).slice (win0_3.rect t)).emb (ix3 0 y1 y2)
      = ix3 (⟨t.val / 33, by omega⟩ : Fin 4) (⟨t.val % 33 * 256 + y1.val, by omega⟩ : Fin 8448) y2 := by
    blk_ext [e3]
  rw [hb]
  try simp only [shared_eq]
  pointwise [k0_pay4, k0_pay5, k0_pay6, k0_pay1, k0_pay2]
  simp only [block_row, block_weight]
  rfl

/-- The projection's 128 columns from 1024 on, as an array. -/
def columns_128 (x : S4x8448x1024.Idx → EReal) (md : S4x2x6x1024.Idx → EReal) (W : S1024x4224.Idx → EReal) (i : S4x8448x128.Idx) : EReal :=
  projected x md W (i 0) (i 1) ⟨1024 + (i 2).val, by have : (i 2).val < 128 := (i 2).isLt; omega⟩

/-- The result window of width 128 holds the projection's columns from 1024. -/
theorem kernel_128 : (dats m 0 c).arrAt 4 cfg0.N = columns_128 (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  obtain ⟨y, rfl⟩ : ∃ y' : S1x256x128.Idx, y' = y := ⟨y, rfl⟩
  idx_vars y
  obtain rfl : y0 = 0 := Subsingleton.elim _ _
  obtain ⟨e0, e1, e2, e3, e4, e5, e6, e7⟩ := index_of t
  have ht : t.val < 132 := t.isLt
  have hb : ((View.whole main_v0_1).slice (win0_4.rect t)).emb (ix3 0 y1 y2)
      = ix3 (⟨t.val / 33, by omega⟩ : Fin 4) (⟨t.val % 33 * 256 + y1.val, by omega⟩ : Fin 8448) y2 := by
    blk_ext [e4]
  rw [hb]
  try simp only [shared_eq]
  pointwise [k0_pay4, k0_pay5, k0_pay6, k0_pay1, k0_pay2]
  simp only [block_row, block_weight]
  rfl

/-- The projection's 256 columns from 1152 on, as an array. -/
def columns_256 (x : S4x8448x1024.Idx → EReal) (md : S4x2x6x1024.Idx → EReal) (W : S1024x4224.Idx → EReal) (i : S4x8448x256.Idx) : EReal :=
  projected x md W (i 0) (i 1) ⟨1152 + (i 2).val, by have : (i 2).val < 256 := (i 2).isLt; omega⟩

/-- The result window of width 256 holds the projection's columns from 1152. -/
theorem kernel_256 : (dats m 0 c).arrAt 5 cfg0.N = columns_256 (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  obtain ⟨y, rfl⟩ : ∃ y' : S1x256x256.Idx, y' = y := ⟨y, rfl⟩
  idx_vars y
  obtain rfl : y0 = 0 := Subsingleton.elim _ _
  obtain ⟨e0, e1, e2, e3, e4, e5, e6, e7⟩ := index_of t
  have ht : t.val < 132 := t.isLt
  have hb : ((View.whole main_v0_2).slice (win0_5.rect t)).emb (ix3 0 y1 y2)
      = ix3 (⟨t.val / 33, by omega⟩ : Fin 4) (⟨t.val % 33 * 256 + y1.val, by omega⟩ : Fin 8448) y2 := by
    blk_ext [e5]
  rw [hb]
  try simp only [shared_eq]
  pointwise [k0_pay4, k0_pay5, k0_pay6, k0_pay1, k0_pay2]
  simp only [block_row, block_weight]
  rfl

/-- The projection's 1280 columns from 1408 on, as an array. -/
def columns_1280 (x : S4x8448x1024.Idx → EReal) (md : S4x2x6x1024.Idx → EReal) (W : S1024x4224.Idx → EReal) (i : S4x8448x1280.Idx) : EReal :=
  projected x md W (i 0) (i 1) ⟨1408 + (i 2).val, by have : (i 2).val < 1280 := (i 2).isLt; omega⟩

/-- The result window of width 1280 holds the projection's columns from 1408. -/
theorem kernel_1280 : (dats m 0 c).arrAt 6 cfg0.N = columns_1280 (m (c.tc.loc main_arg0)) (m (c.tc.loc main_arg1)) (m (c.tc.loc main_arg2)) := by
  refine (dats m 0 c).arrAt_eq_of_covers 6 _ (by decide +kernel) fun t hf y => ?_
  blk_simp
  rw [after0_6]
  frame_out
  obtain ⟨y, rfl⟩ : ∃ y' : S1x256x1280.Idx, y' = y := ⟨y, rfl⟩
  idx_vars y
  obtain rfl : y0 = 0 := Subsingleton.elim _ _
  obtain ⟨e0, e1, e2, e3, e4, e5, e6, e7⟩ := index_of t
  have ht : t.val < 132 := t.isLt
  have hb : ((View.whole main_v0_3).slice (win0_6.rect t)).emb (ix3 0 y1 y2)
      = ix3 (⟨t.val / 33, by omega⟩ : Fin 4) (⟨t.val % 33 * 256 + y1.val, by omega⟩ : Fin 8448) y2 := by
    blk_ext [e6]
  rw [hb]
  try simp only [shared_eq]
  pointwise [k0_pay4, k0_pay5, k0_pay6, k0_pay1, k0_pay2]
  simp only [block_row, block_weight]
  rfl

/-- The projection's 1536 columns from 2688 on, as an array. -/
def columns_1536 (x : S4x8448x1024.Idx → EReal) (md : S4x2x6x1024.Idx → EReal) (W : S1024x4224.Idx → EReal) (i : S4x8448x1536.Idx) : EReal :=
  projected x md W (i 0) (i 1) ⟨2688 + (i 2).val, by have : (i 2).val < 1536 := (i 2).isLt; omega⟩

/-- The result window of width 1536 holds the projection's columns from 2688. -/
theorem kernel_1536 : (dats m 0 c).arrAt 7 cfg0.N = columns_1536 (m (c.tc.loc main_arg0)) (m (c.tc.loc main_arg1)) (m (c.tc.loc main_arg2)) := by
  refine (dats m 0 c).arrAt_eq_of_covers 7 _ (by decide +kernel) fun t hf y => ?_
  blk_simp
  rw [after0_7]
  frame_out
  obtain ⟨y, rfl⟩ : ∃ y' : S1x256x1536.Idx, y' = y := ⟨y, rfl⟩
  idx_vars y
  obtain rfl : y0 = 0 := Subsingleton.elim _ _
  obtain ⟨e0, e1, e2, e3, e4, e5, e6, e7⟩ := index_of t
  have ht : t.val < 132 := t.isLt
  have hb : ((View.whole main_v0_4).slice (win0_7.rect t)).emb (ix3 0 y1 y2)
      = ix3 (⟨t.val / 33, by omega⟩ : Fin 4) (⟨t.val % 33 * 256 + y1.val, by omega⟩ : Fin 8448) y2 := by
    blk_ext [e7]
  rw [hb]
  try simp only [shared_eq]
  pointwise [k0_pay4, k0_pay5, k0_pay6, k0_pay1, k0_pay2]
  simp only [block_row, block_weight]
  rfl

end kernel

open Cert.InProjectionReferenceIdeal in
/-- The reference runs, and its five results are the five column ranges of the projection. -/
theorem reference_run (m : (ℓ : Loc Cert.InProjectionReferenceIdeal.nD Cert.InProjectionReferenceIdeal.τ Cert.InProjectionReferenceIdeal.sig) → Buf (Elt Ideal) ℓ)
    (ρ : Dev Cert.InProjectionReferenceIdeal.nD → PrngReg) :
    θ_run (Cert.InProjectionReferenceIdeal.defs (F := Ideal)) (onTc (τ := Cert.InProjectionReferenceIdeal.τ) (Cert.InProjectionReferenceIdeal.main (F := Ideal))) ⟨m, fun _ => 0, ρ⟩
      fun r => ∀ c : Dev Cert.InProjectionReferenceIdeal.nD,
      r.2.mem (c.tc.loc Cert.InProjectionReferenceIdeal.main_v26) = columns_1024 (m (c.tc.loc Cert.InProjectionReferenceIdeal.main_arg0)) (m (c.tc.loc Cert.InProjectionReferenceIdeal.main_arg1)) (m (c.tc.loc Cert.InProjectionReferenceIdeal.main_arg2))
      ∧ r.2.mem (c.tc.loc Cert.InProjectionReferenceIdeal.main_v27) = columns_128 (m (c.tc.loc Cert.InProjectionReferenceIdeal.main_arg0)) (m (c.tc.loc Cert.InProjectionReferenceIdeal.main_arg1)) (m (c.tc.loc Cert.InProjectionReferenceIdeal.main_arg2))
      ∧ r.2.mem (c.tc.loc Cert.InProjectionReferenceIdeal.main_v31) = columns_256 (m (c.tc.loc Cert.InProjectionReferenceIdeal.main_arg0)) (m (c.tc.loc Cert.InProjectionReferenceIdeal.main_arg1)) (m (c.tc.loc Cert.InProjectionReferenceIdeal.main_arg2))
      ∧ r.2.mem (c.tc.loc Cert.InProjectionReferenceIdeal.main_v29) = columns_1280 (m (c.tc.loc Cert.InProjectionReferenceIdeal.main_arg0)) (m (c.tc.loc Cert.InProjectionReferenceIdeal.main_arg1)) (m (c.tc.loc Cert.InProjectionReferenceIdeal.main_arg2))
      ∧ r.2.mem (c.tc.loc Cert.InProjectionReferenceIdeal.main_v30) = columns_1536 (m (c.tc.loc Cert.InProjectionReferenceIdeal.main_arg0)) (m (c.tc.loc Cert.InProjectionReferenceIdeal.main_arg1)) (m (c.tc.loc Cert.InProjectionReferenceIdeal.main_arg2))
      ∧ r.2.mem (c.tc.loc Cert.InProjectionReferenceIdeal.main_arg0) = m (c.tc.loc Cert.InProjectionReferenceIdeal.main_arg0)
      ∧ r.2.mem (c.tc.loc Cert.InProjectionReferenceIdeal.main_arg1) = m (c.tc.loc Cert.InProjectionReferenceIdeal.main_arg1)
      ∧ r.2.mem (c.tc.loc Cert.InProjectionReferenceIdeal.main_arg2) = m (c.tc.loc Cert.InProjectionReferenceIdeal.main_arg2) := by
  refine (θ_run _ _ _).mono (fun r h c => ?_) (Cert.InProjectionReferenceIdeal.Value.run m ρ)
  obtain ⟨h0, h1, h2, h3, h4, h5, h6, h7⟩ := h c
  refine ⟨h0.trans ?_, h1.trans ?_, h2.trans ?_, h3.trans ?_, h4.trans ?_, h5, h6, h7⟩
  all_goals
    clear h0 h1 h2 h3 h4 h5 h6 h7 h
    funext i
    idx_vars i
    pointwise
    by_cases ht : i1.val < 256
    · have hp : part i1 = 0 := if_pos ht
      simp only [dif_pos ht, columns_1024, columns_128, columns_256, columns_1280, columns_1536, projected, hp, modulated, ix3_0, ix3_1, ix3_2]
    · have e : (⟨256 + (i1.val - 256), by omega⟩ : Fin 8448) = i1 := Fin.ext (by show 256 + (i1.val - 256) = i1.val; omega)
      have hp : part i1 = 1 := if_neg ht
      simp only [dif_neg ht, e, columns_1024, columns_128, columns_256, columns_1280, columns_1536, projected, hp, modulated, ix3_0, ix3_1, ix3_2]

end Cert.InProjection
end
-- ==== Proof.DenseClaims.lean ====
module
public import proofs.«01_k».proof.Defs
public import proofs.«01_k».proof.Proof.Gen.FeedForwardReferenceIdeal
public import proofs.«01_k».proof.Proof.Gen.InProjectionReferenceIdeal
public import proofs.«01_k».proof.Proof.FeedForwardValue
public import proofs.«01_k».proof.Proof.InProjectionValue
@[expose] public section
set_option maxRecDepth 16384
noncomputable section
namespace Cert.Dense
open Idealize.ShloMosaic Idealize.ShloMosaic.TcCoe Idealize.SL.Sem

/-- The dense feed-forward kernel and its reference leave equal results. -/
theorem feedForward : Cert.algebraic_FeedForwardIdeal_FeedForwardReferenceIdeal := by
  intro m g m' g' _ hag
  refine ⟨fun c i => Cert.FeedForward.result (m (c.tc.loc Cert.FeedForwardIdeal.main_arg0)) (m (c.tc.loc Cert.FeedForwardIdeal.main_arg1))
      (m (c.tc.loc Cert.FeedForwardIdeal.main_arg2)) (m (c.tc.loc Cert.FeedForwardIdeal.main_arg3)) (m (c.tc.loc Cert.FeedForwardIdeal.main_arg4))
      (m (c.tc.loc Cert.FeedForwardIdeal.main_arg5)) (i 0) (i 1) (i 2), ?_, ?_⟩
  · refine (θ_run _ _ _).mono (fun r h c => ?_) (Cert.FeedForwardIdeal.Value.run_blocks m g)
    exact ⟨(h c).1.trans (Cert.FeedForward.kernel_result m c), (h c).2⟩
  · refine (θ_run _ _ _).mono (fun r h c => ?_) (Cert.FeedForwardReferenceIdeal.Value.run m' g')
    refine ⟨(h c).1.trans (funext fun i => ?_), (h c).2⟩
    obtain ⟨a0, a1, a2, a3, a4, a5⟩ := hag c
    idx_vars i
    have e := Cert.FeedForward.reference_result m' c i0 i1 i2
    rw [a0, a1, a2, a3, a4, a5] at e
    exact e

/-- The projection kernel and its reference leave equal results, all five of them. -/
theorem inProjection : Cert.algebraic_InProjectionIdeal_InProjectionReferenceIdeal := by
  intro m g m' g' _ hag
  refine ⟨fun c => Cert.InProjection.columns_1024 (m (c.tc.loc Cert.InProjectionIdeal.main_arg0)) (m (c.tc.loc Cert.InProjectionIdeal.main_arg1)) (m (c.tc.loc Cert.InProjectionIdeal.main_arg2)),
    fun c => Cert.InProjection.columns_128 (m (c.tc.loc Cert.InProjectionIdeal.main_arg0)) (m (c.tc.loc Cert.InProjectionIdeal.main_arg1)) (m (c.tc.loc Cert.InProjectionIdeal.main_arg2)),
    fun c => Cert.InProjection.columns_256 (m (c.tc.loc Cert.InProjectionIdeal.main_arg0)) (m (c.tc.loc Cert.InProjectionIdeal.main_arg1)) (m (c.tc.loc Cert.InProjectionIdeal.main_arg2)),
    fun c => Cert.InProjection.columns_1280 (m (c.tc.loc Cert.InProjectionIdeal.main_arg0)) (m (c.tc.loc Cert.InProjectionIdeal.main_arg1)) (m (c.tc.loc Cert.InProjectionIdeal.main_arg2)),
    fun c => Cert.InProjection.columns_1536 (m (c.tc.loc Cert.InProjectionIdeal.main_arg0)) (m (c.tc.loc Cert.InProjectionIdeal.main_arg1)) (m (c.tc.loc Cert.InProjectionIdeal.main_arg2)), ?_, ?_⟩
  · refine (θ_run _ _ _).mono (fun r h c => ?_) (Cert.InProjectionIdeal.Value.run_blocks m g)
    obtain ⟨h0, h1, h2, h3, h4, h5⟩ := h c
    exact ⟨h0.trans (Cert.InProjection.kernel_1024 m c), h1.trans (Cert.InProjection.kernel_128 m c), h2.trans (Cert.InProjection.kernel_256 m c),
      h3.trans (Cert.InProjection.kernel_1280 m c), h4.trans (Cert.InProjection.kernel_1536 m c), h5⟩
  · refine (θ_run _ _ _).mono (fun r h c => ?_) (Cert.InProjection.reference_run m' g')
    obtain ⟨a0, a1, a2⟩ := hag c
    obtain ⟨h0, h1, h2, h3, h4, h5⟩ := h c
    rw [a0, a1, a2] at h0 h1 h2 h3 h4
    exact ⟨h0, h1, h2, h3, h4, h5⟩
end Cert.Dense
end
-- ==== Proof.DenseFrames.lean ====
module
public import proofs.«01_k».proof.Defs
public import proofs.«01_k».proof.Proof.Gen.FeedForwardReferenceIdeal.Run
public import proofs.«01_k».proof.Proof.Gen.InProjectionReferenceIdeal.Run
public import proofs.«01_k».proof.Proof.Gen.FeedForwardReferenceIdeal
public import Idealize.ShloMosaic.Lib.Quiescent
public import proofs.«01_k».proof.Proof.Gen.InProjectionReferenceIdeal
@[expose] public section
noncomputable section
namespace Cert.Dense
open Idealize.ShloMosaic Idealize.SL.Sem

/-- The feed-forward reference terminates and leaves its arguments; it has no counters. -/
theorem feedForwardReference_frame : Cert.quiescent_FeedForwardReferenceIdeal := fun m ρ _ =>
  (θ_run _ _ _).mono (fun r h => ⟨fun c => (h c).2, sem_eq_zero_of_no_sems (by decide) r.2⟩)
    (Cert.FeedForwardReferenceIdeal.Value.run m ρ)

/-- The input projection's reference terminates and leaves its arguments; it has no counters. -/
theorem inProjectionReference_frame : Cert.quiescent_InProjectionReferenceIdeal := fun m ρ _ =>
  (θ_run _ _ _).mono (fun r h => ⟨fun c => (h c).2.2.2.2.2, sem_eq_zero_of_no_sems (by decide) r.2⟩)
    (Cert.InProjectionReferenceIdeal.Value.run m ρ)

end Cert.Dense
end
-- ==== Proof.ExpertsTables.lean ====
module

public import proofs.«01_k».proof.Proof.Gen.ExpertsIdeal.Launch
public import proofs.«01_k».proof.Proof.Gen.ExpertsIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384
set_option Elab.async false

noncomputable section

namespace Cert.ExpertsIdeal.Tables

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg)

/-- The table of experts, as the launch memory holds it. -/
def tbl : pre0.Contents (Elt Ideal) := fun j => m (((0 : Dev nD) : Thread nD τ).loc (pre0.ref j))

/-- The same as words at the array's indices. -/
def tab : S140.Idx → Elt Ideal .i32 := m (((0 : Dev nD) : Thread nD τ).loc main_arg1)

/-- Every block that the table names lies inside the weights. -/
abbrev Ok : Prop := ok0 (F := Ideal) (tbl m)

variable {m}
variable (hO : Ok m)

/-- The table as admissible contents, and the pipeline at it. -/
abbrev adm : (pcfg0 (F := Ideal)).Adm := ⟨tbl m, hO⟩
/-- The launch at the table in memory. -/
abbrev cfgT : Pipeline.Cfg sig Λ₀ := cfg0 (F := Ideal) (adm hO)
/-- Every core's launch at the table in memory. -/
abbrev pcs : Fin 1 → Pipeline.Cfg sig Λ₀ := Pipeline.pin (pcfgs (F := Ideal)) fun _ => adm hO

/-- Window 0's staging buffer at point `t`, a whole buffer. -/
abbrev st0 (t : Fin (cfgT hO).N) : Memref sig .tc .vmem S512x1024 .f32 := spec0_0.stage ((cfgT hO).slots t (0 : Fin 5))
/-- Window 0 of a step occupies its staging buffer whole. -/
abbrev hst0 (t : Fin (cfgT hO).N) : (st0 hO t).IsWhole := hstage0_0 (((cfgT hO).slots t (0 : Fin 5)).cast nbuf0_0)
/-- Window 1's staging buffer at point `t`, a whole buffer. -/
abbrev st1 (t : Fin (cfgT hO).N) : Memref sig .tc .vmem S1x1024x1792 .bf16 := spec0_1.stage ((cfgT hO).slots t (1 : Fin 5))
/-- Window 1 of a step occupies its staging buffer whole. -/
abbrev hst1 (t : Fin (cfgT hO).N) : (st1 hO t).IsWhole := hstage0_1 (((cfgT hO).slots t (1 : Fin 5)).cast nbuf0_1)
/-- Window 2's staging buffer at point `t`, a whole buffer. -/
abbrev st2 (t : Fin (cfgT hO).N) : Memref sig .tc .vmem S1x1024x1792 .bf16 := spec0_2.stage ((cfgT hO).slots t (2 : Fin 5))
/-- Window 2 of a step occupies its staging buffer whole. -/
abbrev hst2 (t : Fin (cfgT hO).N) : (st2 hO t).IsWhole := hstage0_2 (((cfgT hO).slots t (2 : Fin 5)).cast nbuf0_2)
/-- Window 3's staging buffer at point `t`, a whole buffer. -/
abbrev st3 (t : Fin (cfgT hO).N) : Memref sig .tc .vmem S1x1792x1024 .bf16 := spec0_3.stage ((cfgT hO).slots t (3 : Fin 5))
/-- Window 3 of a step occupies its staging buffer whole. -/
abbrev hst3 (t : Fin (cfgT hO).N) : (st3 hO t).IsWhole := hstage0_3 (((cfgT hO).slots t (3 : Fin 5)).cast nbuf0_3)
/-- Window 4's staging buffer at point `t`, a whole buffer. -/
abbrev st4 (t : Fin (cfgT hO).N) : Memref sig .tc .vmem S512x1024 .f32 := spec0_4.stage ((cfgT hO).slots t (4 : Fin 5))
/-- Window 4 of a step occupies its staging buffer whole. -/
abbrev hst4 (t : Fin (cfgT hO).N) : (st4 hO t).IsWhole := hstage0_4 (((cfgT hO).slots t (4 : Fin 5)).cast nbuf0_4)

/-- Window `w`'s block at point `t`, read off its array at launch. -/
def blk (c : Dev nD) (w : Fin (cfgT hO).W) (t : Fin (cfgT hO).N) : (((cfgT hO).win w).xblock ((cfgT hO).grid.coords t)).Idx → Elt Ideal ((cfgT hO).win w).elt :=
  (((cfgT hO).win w).blk t).view.read (Elt Ideal) (m (((cfgT hO).win w).arr.view.loc (c : Thread nD τ)))

/-! ## The schedule: a point is even or odd -/

/-- The first condition of the body holds at the even points, -/
theorem even_iff (t : Fin grid0.N) : k0_cond1 (grid0.coords t) = 1#1 ↔ t.val % 2 = 0 := by
  have ht : t.val < 280 := Nat.lt_of_lt_of_eq t.isLt N_0
  have e0 : (grid0.coords t 0).val = t.val / 2 % 140 := Pipeline.Grid.coords_val t 0 (by decide) rfl
  have e1 : (grid0.coords t 1).val = t.val / 1 % 2 := Pipeline.Grid.coords_val t 1 (by decide) rfl
  simp only [k0_cond1, e0, e1]
  word_cmp

/-- and the second at the odd ones. -/
theorem odd_iff (t : Fin grid0.N) : k0_cond2 (grid0.coords t) = 1#1 ↔ t.val % 2 = 1 := by
  have ht : t.val < 280 := Nat.lt_of_lt_of_eq t.isLt N_0
  have e0 : (grid0.coords t 0).val = t.val / 2 % 140 := Pipeline.Grid.coords_val t 0 (by decide) rfl
  have e1 : (grid0.coords t 1).val = t.val / 1 % 2 := Pipeline.Grid.coords_val t 1 (by decide) rfl
  simp only [k0_cond2, e0, e1]
  word_cmp

/-- The result's block is written back at the odd points. -/
theorem flush4 (t : Fin (cfgT hO).N) : ((cfgT hO).win (4 : Fin 5)).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

/-- The result's block is stored at every point. -/
theorem idle4 (t : Fin (cfgT hO).N) : (cfgT hO).idle (4 : Fin 5) ((cfgT hO).grid.coords t) = false := by
  have e : (cfgT hO).idle (4 : Fin 5) ((cfgT hO).grid.coords t) = (!(k0_cond1 (grid0.coords t) == 1#1) && !(k0_cond2 (grid0.coords t) == 1#1)) := rfl
  rw [e]
  rcases Nat.mod_two_eq_zero_or_one t.val with h | h
  · rw [(even_iff t).2 h]; rfl
  · rw [(odd_iff t).2 h]; simp

/-- Its buffer holds nothing of use before the even points, and the even point's sum before the odd ones. -/
theorem fresh4 (t : Fin (cfgT hO).N) : (cfgT hO).fresh (4 : Fin 5) t.val = (t.val % 2 == 0) := by
  refine Pipeline.Cfg.fresh_tab (cfgT hO) (4 : Fin 5) (fun n => n % 2 == 0) rfl (fun t => ?_) t.val (Nat.le_of_lt t.isLt)
  rw [idle4, Bool.false_and, Bool.or_false]
  rcases Nat.mod_two_eq_zero_or_one t.val with h | h
  · have hf : ((cfgT hO).win (4 : Fin 5)).flush t = false := by
      rw [← Bool.not_eq_true, flush4]; omega
    rw [hf]; simp only [beq_eq_false_iff_ne]; omega
  · rw [(flush4 hO t).2 h]; simp only [beq_iff_eq]; omega

/-! ## What the body leaves -/

/-- The half of the experts' product that point `t` makes: its rows through its half of the hidden columns. -/
def half (c : Dev nD) (t : Fin (cfgT hO).N) : S512x1024.Idx → Elt Ideal .f32 :=
  k0_pay1 (F := Ideal) (blk hO c (0 : Fin 5) t) (blk hO c (1 : Fin 5) t) (blk hO c (2 : Fin 5) t) (blk hO c (3 : Fin 5) t)

/-- What the result's buffer holds after point `t`: the first half at an even point, both at an odd one. -/
def left (c : Dev nD) (t : Fin (cfgT hO).N) : S512x1024.Idx → Elt Ideal .f32 :=
  if t.val % 2 = 0 then half hO c t
  else k0_pay2 (F := Ideal) (blk hO c (0 : Fin 5) t) (blk hO c (1 : Fin 5) t) (blk hO c (2 : Fin 5) t) (blk hO c (3 : Fin 5) t)
    (half hO c ⟨t.val - 1, by have := t.isLt; omega⟩)

/-- The pieces of an even point, read back, are its half. -/
theorem first_out (c : Dev nD) (i : grid0.Coords) (a3 : Memref sig .tc .vmem S512x1024 .f32) (h3 : a3.IsWhole) (a4 : Memref sig .tc .vmem S1x1024x1792 .bf16) (h4 : a4.IsWhole) (a5 : Memref sig .tc .vmem S1x1024x1792 .bf16) (h5 : a5.IsWhole) (a6 : Memref sig .tc .vmem S1x1792x1024 .bf16) (h6 : a6.IsWhole) (a7 : Memref sig .tc .vmem S512x1024 .f32) (h7 : a7.IsWhole) (T : S140.Idx → Elt Ideal .i32)
    (x0 : S512x1024.Idx → Elt Ideal .f32) (x1 x2 : S1x1024x1792.Idx → Elt Ideal .bf16) (x3 : S1x1792x1024.Idx → Elt Ideal .bf16) (k1 : k0_cond1 i = 1#1) (k2 : ¬(k0_cond2 i = 1#1)) :
    out0_A_4 c i a3 h3 a4 h4 a5 h5 a6 h6 a7 h7 T x0 x1 x2 x3 k1 k2 = k0_pay1 (F := Ideal) x0 x1 x2 x3 := by
  frame_out
  rw [a3.view.read_rep, a4.view.read_rep, a5.view.read_rep, a6.view.read_rep]

/-- The pieces of an odd point, read back, are the sum of what the buffer held and its half. -/
theorem second_out (c : Dev nD) (i : grid0.Coords) (a3 : Memref sig .tc .vmem S512x1024 .f32) (h3 : a3.IsWhole) (a4 : Memref sig .tc .vmem S1x1024x1792 .bf16) (h4 : a4.IsWhole) (a5 : Memref sig .tc .vmem S1x1024x1792 .bf16) (h5 : a5.IsWhole) (a6 : Memref sig .tc .vmem S1x1792x1024 .bf16) (h6 : a6.IsWhole) (a7 : Memref sig .tc .vmem S512x1024 .f32) (h7 : a7.IsWhole) (T : S140.Idx → Elt Ideal .i32)
    (x0 : S512x1024.Idx → Elt Ideal .f32) (x1 x2 : S1x1024x1792.Idx → Elt Ideal .bf16) (x3 : S1x1792x1024.Idx → Elt Ideal .bf16) (xo : S512x1024.Idx → Elt Ideal .f32) (k1 : ¬(k0_cond1 i = 1#1)) (k2 : k0_cond2 i = 1#1) :
    out0_B_4 c i a3 h3 a4 h4 a5 h5 a6 h6 a7 h7 T x0 x1 x2 x3 xo k1 k2 = k0_pay2 (F := Ideal) x0 x1 x2 x3 xo := by
  frame_out
  rw [a3.view.read_rep, a4.view.read_rep, a5.view.read_rep, a6.view.read_rep]

/-! ## The proof data and the body's triple -/

/-- The body's half of the table, which it passes through unread. -/
def Phi (c : Dev nD) : sProp 𝕄 := iprop((tbM0_0.view.loc (c : Thread nD τ) ↦{fullShare.right} tbl m 0))

/-- The proof data of the pipeline on core `c`: each input's buffer at its block, the result's at `left`. -/
def dats (_ : Fin 1) (c : Dev nD) : Dat τ (Elt Ideal) Unit ℕ (UR sig nD τ) ℕ (cfgT hO) c where
  A w := m (((cfgT hO).win w).arr.view.loc (c : Thread nD τ))
  after w t := match w with
    | ⟨0, _⟩ => blk hO c (0 : Fin 5) t
    | ⟨1, _⟩ => blk hO c (1 : Fin 5) t
    | ⟨2, _⟩ => blk hO c (2 : Fin 5) t
    | ⟨3, _⟩ => blk hO c (3 : Fin 5) t
    | ⟨4, _⟩ => left hO c t
  Φ _ := Phi (m := m) c
  q _ := fullShare
  owed _ := 0

/-- Window 0 after a step holds the block it brought in. -/
theorem after0 (c : Dev nD) (t : Fin (cfgT hO).N) : (dats hO 0 c).after (0 : Fin 5) t = blk hO c (0 : Fin 5) t := rfl
/-- Window 1 after a step holds the block it brought in. -/
theorem after1 (c : Dev nD) (t : Fin (cfgT hO).N) : (dats hO 0 c).after (1 : Fin 5) t = blk hO c (1 : Fin 5) t := rfl
/-- Window 2 after a step holds the block it brought in. -/
theorem after2 (c : Dev nD) (t : Fin (cfgT hO).N) : (dats hO 0 c).after (2 : Fin 5) t = blk hO c (2 : Fin 5) t := rfl
/-- Window 3 after a step holds the block it brought in. -/
theorem after3 (c : Dev nD) (t : Fin (cfgT hO).N) : (dats hO 0 c).after (3 : Fin 5) t = blk hO c (3 : Fin 5) t := rfl
/-- The result window after a step holds the rows the step leaves. -/
theorem after4 (c : Dev nD) (t : Fin (cfgT hO).N) : (dats hO 0 c).after (4 : Fin 5) t = left hO c t := rfl

/-- Input window 0's buffer holds its block at every point. -/
theorem before0 (c : Dev nD) (t : Fin (cfgT hO).N) (d) : (dats hO 0 c).before (0 : Fin 5) t d = blk hO c (0 : Fin 5) t :=
  ((dats hO 0 c).before_in_eq_fetched (0 : Fin 5) rfl (fun _ => rfl) (fun _ _ _ => rfl) (fun t => by rw [after0]; unfold Dat.blockOf blk; rfl) t d).trans
    (by unfold Dat.fetched Dat.blockOf blk; rfl)

/-- Input window 1's buffer holds its block at every point. -/
theorem before1 (c : Dev nD) (t : Fin (cfgT hO).N) (d) : (dats hO 0 c).before (1 : Fin 5) t d = blk hO c (1 : Fin 5) t :=
  ((dats hO 0 c).before_in_eq_fetched (1 : Fin 5) rfl (fun _ => rfl) (fun _ _ _ => rfl) (fun t => by rw [after1]; unfold Dat.blockOf blk; rfl) t d).trans
    (by unfold Dat.fetched Dat.blockOf blk; rfl)

/-- Input window 2's buffer holds its block at every point. -/
theorem before2 (c : Dev nD) (t : Fin (cfgT hO).N) (d) : (dats hO 0 c).before (2 : Fin 5) t d = blk hO c (2 : Fin 5) t :=
  ((dats hO 0 c).before_in_eq_fetched (2 : Fin 5) rfl (fun _ => rfl) (fun _ _ _ => rfl) (fun t => by rw [after2]; unfold Dat.blockOf blk; rfl) t d).trans
    (by unfold Dat.fetched Dat.blockOf blk; rfl)

/-- Input window 3's buffer holds its block at every point. -/
theorem before3 (c : Dev nD) (t : Fin (cfgT hO).N) (d) : (dats hO 0 c).before (3 : Fin 5) t d = blk hO c (3 : Fin 5) t :=
  ((dats hO 0 c).before_in_eq_fetched (3 : Fin 5) rfl (fun _ => rfl) (fun _ _ _ => rfl) (fun t => by rw [after3]; unfold Dat.blockOf blk; rfl) t d).trans
    (by unfold Dat.fetched Dat.blockOf blk; rfl)

/-- The result's buffer at an odd point holds the half of the point before. -/
theorem before4 (c : Dev nD) (t : Fin (cfgT hO).N) (d) (h : t.val % 2 = 1) :
    (dats hO 0 c).before (4 : Fin 5) t d = half hO c ⟨t.val - 1, by have := t.isLt; omega⟩ := by
  have hc : ∀ (t : Fin (cfgT hO).N) (_ : t.val ≠ 0), (cfgT hO).idle (4 : Fin 5) ((cfgT hO).grid.coords t) = true → (cfgT hO).fresh (4 : Fin 5) t.val = false →
      (dats hO 0 c).after (4 : Fin 5) t = (dats hO 0 c).after (4 : Fin 5) ⟨t.val - 1, by omega⟩ := fun t _ hi => by
    rw [idle4] at hi; exact absurd hi (by decide)
  have hf : (cfgT hO).fresh (4 : Fin 5) t.val = false := by rw [fresh4, beq_eq_false_iff_ne]; omega
  rw [(dats hO 0 c).before_out_traj (4 : Fin 5) rfl (fun _ _ => rfl) hc t.val t rfl d, hf, if_neg (by decide), after4]
  unfold left
  have h2 : (t.val - 1) % 2 = 0 := by omega
  rw [if_pos h2]

/-- The body at point `t`, as the pipeline calls it. -/
abbrev bodyAt (t : Fin (cfgT hO).N) : Prog (TpuEff nD τ sig (Elt Ideal) Λ₀ .tc) PUnit :=
  cc0_moe_experts ((cfgT hO).grid.coords t) (Memref.whole main_arg1) (Memref.isWhole_whole _) (st0 hO t) (hst0 hO t) (st1 hO t) (hst1 hO t) (st2 hO t) (hst2 hO t) (st3 hO t) (hst3 hO t) (st4 hO t) (hst4 hO t)

set_option maxHeartbeats 4000000 in
/-- The body at any point, from the inputs' blocks and the table, leaves the result's buffer at `left`. -/
theorem sound_body (c : Dev nD) (t : Fin (cfgT hO).N) :
    iprop((dats hO 0 c).Φ t.castSucc ∗ (dats hO 0 c).owesAt () t.castSucc
        ∗ (∃ d, owns (c : Thread nD τ) (st0 hO t) fullShare ((dats hO 0 c).before (0 : Fin 5) t d))
        ∗ (∃ d, owns (c : Thread nD τ) (st1 hO t) fullShare ((dats hO 0 c).before (1 : Fin 5) t d))
        ∗ (∃ d, owns (c : Thread nD τ) (st2 hO t) fullShare ((dats hO 0 c).before (2 : Fin 5) t d))
        ∗ (∃ d, owns (c : Thread nD τ) (st3 hO t) fullShare ((dats hO 0 c).before (3 : Fin 5) t d))
        ∗ (∃ d, owns (c : Thread nD τ) (st4 hO t) fullShare ((dats hO 0 c).before (4 : Fin 5) t d)))
      ⊢ wp frame (wpE (defs₀ (F := Ideal)) Variants.none c none) Set.univ (bodyAt hO t) fun _ =>
          iprop((dats hO 0 c).Φ t.succ ∗ (dats hO 0 c).owesAt () t.succ
            ∗ bigSep Finset.univ fun w : Fin (cfgT hO).W =>
                match (cfgT hO).idle w ((cfgT hO).grid.coords t) with
                | true =>
                  match ((cfgT hO).win w).flush t with
                  | false => iprop(∃ d, owns (c : Thread nD τ) (((cfgT hO).win w).stage ((cfgT hO).slots t w)) fullShare ((dats hO 0 c).before w t d))
                  | true => owns (c : Thread nD τ) (((cfgT hO).win w).stage ((cfgT hO).slots t w)) fullShare ((dats hO 0 c).after w t)
                | false => owns (c : Thread nD τ) (((cfgT hO).win w).stage ((cfgT hO).slots t w)) fullShare ((dats hO 0 c).after w t)) := by
  rw [bigSep_W0]
  rewrite [idle4]
  simp only [before0, before1, before2, before3, after0, after1, after2, after3, after4]
  rewrite [show (dats hO 0 c).Φ t.succ = Phi (m := m) c from rfl, show (dats hO 0 c).Φ t.castSucc = Phi (m := m) c from rfl,
    show (dats hO 0 c).owesAt () t.succ = (dats hO 0 c).owesAt () t.castSucc from rfl]
  unfold Phi
  rcases Nat.mod_two_eq_zero_or_one t.val with h | h
  · have k1 := (even_iff t).2 h
    have k2 : ¬(k0_cond2 (grid0.coords t) = 1#1) := fun k => by have := (odd_iff t).1 k; omega
    have e : left hO c t = out0_A_4 c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) k1 k2 := by
      unfold left; rw [if_pos h]; exact (first_out c (grid0.coords t) _ _ _ _ _ _ _ _ _ _ _ _ _ _ _ _ _).symm
    rewrite [e]
    iintro ⟨HT0, Ho, ⟨%d0, H0⟩, ⟨%d1, H1⟩, ⟨%d2, H2⟩, ⟨%d3, H3⟩, ⟨%d4, H4⟩⟩
    iapply ((kernelRun0_A c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) k1 k2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _)
  · have k2 := (odd_iff t).2 h
    have k1 : ¬(k0_cond1 (grid0.coords t) = 1#1) := fun k => by have := (even_iff t).1 k; omega
    have e : left hO c t = out0_B_4 c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) (half hO c ⟨t.val - 1, by have := t.isLt; omega⟩) k1 k2 := by
      unfold left; rw [if_neg (by omega)]; exact (second_out c (grid0.coords t) _ _ _ _ _ _ _ _ _ _ _ _ _ _ _ _ _ _).symm
    rewrite [e]
    simp only [before4 hO c t _ h]
    iintro ⟨HT0, Ho, ⟨%d0, H0⟩, ⟨%d1, H1⟩, ⟨%d2, H2⟩, ⟨%d3, H3⟩, ⟨%d4, H4⟩⟩
    iapply ((kernelRun0_B c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) _ k1 k2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body's obligation at every point. -/
theorem obligation (c : Dev nD) : BodyObligation (dats hO 0 c) (defs₀ (F := Ideal)) Variants.none () Set.univ := fun t => by
  rw [bigSep_W0]
  exact sound_body hO c t

/-! ## The launch -/

/-- The launch's element of the rounds' resource algebra. -/
def u₀ : UR sig nD τ :=
  initOf (Pipeline.cells (pcs hO) ((launch0 (F := Ideal)).cellOf_inj fun _ => adm hO))
    (Pipeline.launchToks (pcs hO) ((launch0 (F := Ideal)).cellOf_inj fun _ => adm hO))

/-- Every window is held in full. -/
theorem share_eq (c : Dev nD) (w : Fin (cfgT hO).W) : (dats hO 0 c).share w = fullShare := by unfold Dat.share; split <;> rfl

/-- The table as the launch hands it to the region. -/
theorem held_eq (c : Dev nD) (q : Fin 1 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The invariant at the first point, from the table; -/
theorem phi_intro (c : Dev nD) :
    iprop(BI.emp ∗ Pipeline.prefHeld pre0 c (fun _ => fullShare.right) (adm hO).1 ∗ Pipeline.scopedRest spec0 c) ⊢ (dats hO 0 c).Φ 0 := by
  rw [held_eq, scopedRest0_eq, show (dats hO 0 c).Φ 0 = Phi (m := m) c from rfl]
  unfold Phi
  iintro ⟨-, HT0, -⟩
  iexact HT0

/-- at the last point the table is let go. -/
theorem phi_exit (c : Dev nD) : (dats hO 0 c).Φ (Fin.last (cfgT hO).N) ⊢ iprop(BI.emp ∗ Pipeline.scopedRest spec0 c) := by
  rw [scopedRest0_eq, show (dats hO 0 c).Φ (Fin.last (cfgT hO).N) = Phi (m := m) c from rfl]
  unfold Phi
  iintro -
  isplitr; · iempintro
  iempintro

/-- The memory at the end: every array at the pipeline's contents, the table as it was. -/
def Final : PUnit × MemSt nD τ sig (Elt Ideal) → Prop := fun r =>
  ∀ c : Dev nD, (∀ w : Fin (cfgT hO).W, r.2.mem (((cfgT hO).win w).arr.view.loc (c : Thread nD τ)) = (dats hO 0 c).arrAt w (cfgT hO).N)
    ∧ ∀ j, r.2.mem ((c : Thread nD τ).loc (pre0.ref j)) = tbl m j

/-- The table is the same array on every core. -/
theorem table_everywhere (c : Dev nD) (j : Fin 1) : m ((c : Thread nD τ).loc (pre0.ref j)) = (adm hO).1 j := by
  obtain rfl : c = 0 := Subsingleton.elim _ _; rfl

set_option backward.isDefEq.respectTransparency.types false in
set_option maxHeartbeats 4000000 in
/-- Every weakly fair execution terminates with the arrays at the pipeline's contents and every counter at zero. -/
theorem run_all : θ_run (defs (F := Ideal)) (onTc (τ := τ) (main (F := Ideal))) (s₀ m ρ) (fun r => Final hO r ∧ r.2.sem = fun _ => 0) :=
  Pipeline.θ_run_region_noSem_pf_quiescent pcfgs (fun _ => adm hO) (dats hO) () ((launch0 (F := Ideal)).cellOf_inj fun _ => adm hO) (0 : Fin 1)
    (launch0 (F := Ideal)).win.to₀ (launch0 (F := Ideal)).pre (emb₁ : Emb (UR sig nD τ) 𝕄) defs₀ Variants.none m ρ main
    (hbody := fun c => (obligation hO c).loose) (hne := (launch0 (F := Ideal)).block_pos)
    (harr := (launch0 (F := Ideal)).arr_whole) (hstage := (launch0 (F := Ideal)).stage_whole) (howed := fun _ _ => rfl)
    (u₀ := u₀ hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hO) (dats hO) 0 (launch0 (F := Ideal)).win.arr_inj c (launch0 (F := Ideal)).arr_whole
      (share_eq hO c) _ _ fun _ => rfl)
    (hpf := table_everywhere hO)
    (X := fun _ => iprop(emp)) (Y := fun _ => iprop(emp)) (Z := fun _ => iprop(emp))
    (hX := fun c => by rw [unscopedRestP0_eq]; iintro -; isplitr <;> iempintro)
    (hin := phi_intro hO)
    (hout := phi_exit hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result ends at the pipeline's contents and the arguments end unchanged. -/
theorem run : θ_run (defs (F := Ideal)) (onTc (τ := τ) (main (F := Ideal))) ⟨m, fun _ => 0, ρ⟩ (fun r => ∀ c : Dev nD,
      r.2.mem ((c.tc : Thread nD τ).loc main_v0) = (dats hO 0 c).arrAt (4 : Fin 5) (cfgT hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 (4 : Fin 5),
    ((h.1 c).1 (0 : Fin 5)).trans ((dats hO 0 c).arrAt_in (0 : Fin 5) rfl _), ((h.1 c).2 0).trans (table_everywhere hO c 0).symm,
    ((h.1 c).1 (1 : Fin 5)).trans ((dats hO 0 c).arrAt_in (1 : Fin 5) rfl _), ((h.1 c).1 (2 : Fin 5)).trans ((dats hO 0 c).arrAt_in (2 : Fin 5) rfl _),
    ((h.1 c).1 (3 : Fin 5)).trans ((dats hO 0 c).arrAt_in (3 : Fin 5) rfl _)⟩) (run_all ρ hO)

include hO in
/-- The frame: the arguments end unchanged and every counter ends at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run ρ hO)) ((θ_run defs _ _).mono (fun _ h => h.2) (run_all ρ hO))

end Cert.ExpertsIdeal.Tables

end
-- ==== Proof.ExpertsBitsTables.lean ====
module

public import proofs.«01_k».proof.Proof.Gen.Experts.Launch
public import proofs.«01_k».proof.Proof.Gen.Experts.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384
set_option Elab.async false

noncomputable section

namespace Cert.Experts.Tables

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Bits) ℕ (UR sig nD τ) ℕ

variable (m : (ℓ : Loc nD τ sig) → Buf (Elt Bits) ℓ) (ρ : Dev nD → PrngReg)

/-- The table of experts, as the launch memory holds it. -/
def tbl : pre0.Contents (Elt Bits) := fun j => m (((0 : Dev nD) : Thread nD τ).loc (pre0.ref j))

/-- The same as words at the array's indices. -/
def tab : S140.Idx → Elt Bits .i32 := m (((0 : Dev nD) : Thread nD τ).loc main_arg1)

/-- Every block that the table names lies inside the weights. -/
abbrev Ok : Prop := ok0 (F := Bits) (tbl m)

variable {m}
variable (hO : Ok m)

/-- The table as admissible contents, and the pipeline at it. -/
abbrev adm : (pcfg0 (F := Bits)).Adm := ⟨tbl m, hO⟩
/-- The launch at the table in memory. -/
abbrev cfgT : Pipeline.Cfg sig Λ₀ := cfg0 (F := Bits) (adm hO)
/-- Every core's launch at the table in memory. -/
abbrev pcs : Fin 1 → Pipeline.Cfg sig Λ₀ := Pipeline.pin (pcfgs (F := Bits)) fun _ => adm hO

/-- Window 0's staging buffer at point `t`, a whole buffer. -/
abbrev st0 (t : Fin (cfgT hO).N) : Memref sig .tc .vmem S512x1024 .f32 := spec0_0.stage ((cfgT hO).slots t (0 : Fin 5))
/-- Window 0 of a step occupies its staging buffer whole. -/
abbrev hst0 (t : Fin (cfgT hO).N) : (st0 hO t).IsWhole := hstage0_0 (((cfgT hO).slots t (0 : Fin 5)).cast nbuf0_0)
/-- Window 1's staging buffer at point `t`, a whole buffer. -/
abbrev st1 (t : Fin (cfgT hO).N) : Memref sig .tc .vmem S1x1024x1792 .bf16 := spec0_1.stage ((cfgT hO).slots t (1 : Fin 5))
/-- Window 1 of a step occupies its staging buffer whole. -/
abbrev hst1 (t : Fin (cfgT hO).N) : (st1 hO t).IsWhole := hstage0_1 (((cfgT hO).slots t (1 : Fin 5)).cast nbuf0_1)
/-- Window 2's staging buffer at point `t`, a whole buffer. -/
abbrev st2 (t : Fin (cfgT hO).N) : Memref sig .tc .vmem S1x1024x1792 .bf16 := spec0_2.stage ((cfgT hO).slots t (2 : Fin 5))
/-- Window 2 of a step occupies its staging buffer whole. -/
abbrev hst2 (t : Fin (cfgT hO).N) : (st2 hO t).IsWhole := hstage0_2 (((cfgT hO).slots t (2 : Fin 5)).cast nbuf0_2)
/-- Window 3's staging buffer at point `t`, a whole buffer. -/
abbrev st3 (t : Fin (cfgT hO).N) : Memref sig .tc .vmem S1x1792x1024 .bf16 := spec0_3.stage ((cfgT hO).slots t (3 : Fin 5))
/-- Window 3 of a step occupies its staging buffer whole. -/
abbrev hst3 (t : Fin (cfgT hO).N) : (st3 hO t).IsWhole := hstage0_3 (((cfgT hO).slots t (3 : Fin 5)).cast nbuf0_3)
/-- Window 4's staging buffer at point `t`, a whole buffer. -/
abbrev st4 (t : Fin (cfgT hO).N) : Memref sig .tc .vmem S512x1024 .f32 := spec0_4.stage ((cfgT hO).slots t (4 : Fin 5))
/-- Window 4 of a step occupies its staging buffer whole. -/
abbrev hst4 (t : Fin (cfgT hO).N) : (st4 hO t).IsWhole := hstage0_4 (((cfgT hO).slots t (4 : Fin 5)).cast nbuf0_4)

/-- Window `w`'s block at point `t`, read off its array at launch. -/
def blk (c : Dev nD) (w : Fin (cfgT hO).W) (t : Fin (cfgT hO).N) : (((cfgT hO).win w).xblock ((cfgT hO).grid.coords t)).Idx → Elt Bits ((cfgT hO).win w).elt :=
  (((cfgT hO).win w).blk t).view.read (Elt Bits) (m (((cfgT hO).win w).arr.view.loc (c : Thread nD τ)))

/-! ## The schedule: a point is even or odd -/

/-- The first condition of the body holds at the even points, -/
theorem even_iff (t : Fin grid0.N) : k0_cond1 (grid0.coords t) = 1#1 ↔ t.val % 2 = 0 := by
  have ht : t.val < 280 := Nat.lt_of_lt_of_eq t.isLt N_0
  have e0 : (grid0.coords t 0).val = t.val / 2 % 140 := Pipeline.Grid.coords_val t 0 (by decide) rfl
  have e1 : (grid0.coords t 1).val = t.val / 1 % 2 := Pipeline.Grid.coords_val t 1 (by decide) rfl
  simp only [k0_cond1, e0, e1]
  word_cmp

/-- and the second at the odd ones. -/
theorem odd_iff (t : Fin grid0.N) : k0_cond2 (grid0.coords t) = 1#1 ↔ t.val % 2 = 1 := by
  have ht : t.val < 280 := Nat.lt_of_lt_of_eq t.isLt N_0
  have e0 : (grid0.coords t 0).val = t.val / 2 % 140 := Pipeline.Grid.coords_val t 0 (by decide) rfl
  have e1 : (grid0.coords t 1).val = t.val / 1 % 2 := Pipeline.Grid.coords_val t 1 (by decide) rfl
  simp only [k0_cond2, e0, e1]
  word_cmp

/-- The result's block is written back at the odd points. -/
theorem flush4 (t : Fin (cfgT hO).N) : ((cfgT hO).win (4 : Fin 5)).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1) t

/-- The result's block is stored at every point. -/
theorem idle4 (t : Fin (cfgT hO).N) : (cfgT hO).idle (4 : Fin 5) ((cfgT hO).grid.coords t) = false := by
  have e : (cfgT hO).idle (4 : Fin 5) ((cfgT hO).grid.coords t) = (!(k0_cond1 (grid0.coords t) == 1#1) && !(k0_cond2 (grid0.coords t) == 1#1)) := rfl
  rw [e]
  rcases Nat.mod_two_eq_zero_or_one t.val with h | h
  · rw [(even_iff t).2 h]; rfl
  · rw [(odd_iff t).2 h]; simp

/-- Its buffer holds nothing of use before the even points, and the even point's sum before the odd ones. -/
theorem fresh4 (t : Fin (cfgT hO).N) : (cfgT hO).fresh (4 : Fin 5) t.val = (t.val % 2 == 0) := by
  refine Pipeline.Cfg.fresh_tab (cfgT hO) (4 : Fin 5) (fun n => n % 2 == 0) rfl (fun t => ?_) t.val (Nat.le_of_lt t.isLt)
  rw [idle4, Bool.false_and, Bool.or_false]
  rcases Nat.mod_two_eq_zero_or_one t.val with h | h
  · have hf : ((cfgT hO).win (4 : Fin 5)).flush t = false := by
      rw [← Bool.not_eq_true, flush4]; omega
    rw [hf]; simp only [beq_eq_false_iff_ne]; omega
  · rw [(flush4 hO t).2 h]; simp only [beq_iff_eq]; omega

/-! ## What the body leaves -/

/-- The half of the experts' product that point `t` makes: its rows through its half of the hidden columns. -/
def half (c : Dev nD) (t : Fin (cfgT hO).N) : S512x1024.Idx → Elt Bits .f32 :=
  k0_pay1 (F := Bits) (blk hO c (0 : Fin 5) t) (blk hO c (1 : Fin 5) t) (blk hO c (2 : Fin 5) t) (blk hO c (3 : Fin 5) t)

/-- What the result's buffer holds after point `t`: the first half at an even point, both at an odd one. -/
def left (c : Dev nD) (t : Fin (cfgT hO).N) : S512x1024.Idx → Elt Bits .f32 :=
  if t.val % 2 = 0 then half hO c t
  else k0_pay2 (F := Bits) (blk hO c (0 : Fin 5) t) (blk hO c (1 : Fin 5) t) (blk hO c (2 : Fin 5) t) (blk hO c (3 : Fin 5) t)
    (half hO c ⟨t.val - 1, by have := t.isLt; omega⟩)

/-- The pieces of an even point, read back, are its half. -/
theorem first_out (c : Dev nD) (i : grid0.Coords) (a3 : Memref sig .tc .vmem S512x1024 .f32) (h3 : a3.IsWhole) (a4 : Memref sig .tc .vmem S1x1024x1792 .bf16) (h4 : a4.IsWhole) (a5 : Memref sig .tc .vmem S1x1024x1792 .bf16) (h5 : a5.IsWhole) (a6 : Memref sig .tc .vmem S1x1792x1024 .bf16) (h6 : a6.IsWhole) (a7 : Memref sig .tc .vmem S512x1024 .f32) (h7 : a7.IsWhole) (T : S140.Idx → Elt Bits .i32)
    (x0 : S512x1024.Idx → Elt Bits .f32) (x1 x2 : S1x1024x1792.Idx → Elt Bits .bf16) (x3 : S1x1792x1024.Idx → Elt Bits .bf16) (k1 : k0_cond1 i = 1#1) (k2 : ¬(k0_cond2 i = 1#1)) :
    out0_A_4 c i a3 h3 a4 h4 a5 h5 a6 h6 a7 h7 T x0 x1 x2 x3 k1 k2 = k0_pay1 (F := Bits) x0 x1 x2 x3 := by
  frame_out
  rw [a3.view.read_rep, a4.view.read_rep, a5.view.read_rep, a6.view.read_rep]

/-- The pieces of an odd point, read back, are the sum of what the buffer held and its half. -/
theorem second_out (c : Dev nD) (i : grid0.Coords) (a3 : Memref sig .tc .vmem S512x1024 .f32) (h3 : a3.IsWhole) (a4 : Memref sig .tc .vmem S1x1024x1792 .bf16) (h4 : a4.IsWhole) (a5 : Memref sig .tc .vmem S1x1024x1792 .bf16) (h5 : a5.IsWhole) (a6 : Memref sig .tc .vmem S1x1792x1024 .bf16) (h6 : a6.IsWhole) (a7 : Memref sig .tc .vmem S512x1024 .f32) (h7 : a7.IsWhole) (T : S140.Idx → Elt Bits .i32)
    (x0 : S512x1024.Idx → Elt Bits .f32) (x1 x2 : S1x1024x1792.Idx → Elt Bits .bf16) (x3 : S1x1792x1024.Idx → Elt Bits .bf16) (xo : S512x1024.Idx → Elt Bits .f32) (k1 : ¬(k0_cond1 i = 1#1)) (k2 : k0_cond2 i = 1#1) :
    out0_B_4 c i a3 h3 a4 h4 a5 h5 a6 h6 a7 h7 T x0 x1 x2 x3 xo k1 k2 = k0_pay2 (F := Bits) x0 x1 x2 x3 xo := by
  frame_out
  rw [a3.view.read_rep, a4.view.read_rep, a5.view.read_rep, a6.view.read_rep]

/-! ## The proof data and the body's triple -/

/-- The body's half of the table, which it passes through unread. -/
def Phi (c : Dev nD) : sProp 𝕄 := iprop((tbM0_0.view.loc (c : Thread nD τ) ↦{fullShare.right} tbl m 0))

/-- The proof data of the pipeline on core `c`: each input's buffer at its block, the result's at `left`. -/
def dats (_ : Fin 1) (c : Dev nD) : Dat τ (Elt Bits) Unit ℕ (UR sig nD τ) ℕ (cfgT hO) c where
  A w := m (((cfgT hO).win w).arr.view.loc (c : Thread nD τ))
  after w t := match w with
    | ⟨0, _⟩ => blk hO c (0 : Fin 5) t
    | ⟨1, _⟩ => blk hO c (1 : Fin 5) t
    | ⟨2, _⟩ => blk hO c (2 : Fin 5) t
    | ⟨3, _⟩ => blk hO c (3 : Fin 5) t
    | ⟨4, _⟩ => left hO c t
  Φ _ := Phi (m := m) c
  q _ := fullShare
  owed _ := 0

/-- Window 0 after a step holds the block it brought in. -/
theorem after0 (c : Dev nD) (t : Fin (cfgT hO).N) : (dats hO 0 c).after (0 : Fin 5) t = blk hO c (0 : Fin 5) t := rfl
/-- Window 1 after a step holds the block it brought in. -/
theorem after1 (c : Dev nD) (t : Fin (cfgT hO).N) : (dats hO 0 c).after (1 : Fin 5) t = blk hO c (1 : Fin 5) t := rfl
/-- Window 2 after a step holds the block it brought in. -/
theorem after2 (c : Dev nD) (t : Fin (cfgT hO).N) : (dats hO 0 c).after (2 : Fin 5) t = blk hO c (2 : Fin 5) t := rfl
/-- Window 3 after a step holds the block it brought in. -/
theorem after3 (c : Dev nD) (t : Fin (cfgT hO).N) : (dats hO 0 c).after (3 : Fin 5) t = blk hO c (3 : Fin 5) t := rfl
/-- The result window after a step holds the rows the step leaves. -/
theorem after4 (c : Dev nD) (t : Fin (cfgT hO).N) : (dats hO 0 c).after (4 : Fin 5) t = left hO c t := rfl

/-- Input window 0's buffer holds its block at every point. -/
theorem before0 (c : Dev nD) (t : Fin (cfgT hO).N) (d) : (dats hO 0 c).before (0 : Fin 5) t d = blk hO c (0 : Fin 5) t :=
  ((dats hO 0 c).before_in_eq_fetched (0 : Fin 5) rfl (fun _ => rfl) (fun _ _ _ => rfl) (fun t => by rw [after0]; unfold Dat.blockOf blk; rfl) t d).trans
    (by unfold Dat.fetched Dat.blockOf blk; rfl)

/-- Input window 1's buffer holds its block at every point. -/
theorem before1 (c : Dev nD) (t : Fin (cfgT hO).N) (d) : (dats hO 0 c).before (1 : Fin 5) t d = blk hO c (1 : Fin 5) t :=
  ((dats hO 0 c).before_in_eq_fetched (1 : Fin 5) rfl (fun _ => rfl) (fun _ _ _ => rfl) (fun t => by rw [after1]; unfold Dat.blockOf blk; rfl) t d).trans
    (by unfold Dat.fetched Dat.blockOf blk; rfl)

/-- Input window 2's buffer holds its block at every point. -/
theorem before2 (c : Dev nD) (t : Fin (cfgT hO).N) (d) : (dats hO 0 c).before (2 : Fin 5) t d = blk hO c (2 : Fin 5) t :=
  ((dats hO 0 c).before_in_eq_fetched (2 : Fin 5) rfl (fun _ => rfl) (fun _ _ _ => rfl) (fun t => by rw [after2]; unfold Dat.blockOf blk; rfl) t d).trans
    (by unfold Dat.fetched Dat.blockOf blk; rfl)

/-- Input window 3's buffer holds its block at every point. -/
theorem before3 (c : Dev nD) (t : Fin (cfgT hO).N) (d) : (dats hO 0 c).before (3 : Fin 5) t d = blk hO c (3 : Fin 5) t :=
  ((dats hO 0 c).before_in_eq_fetched (3 : Fin 5) rfl (fun _ => rfl) (fun _ _ _ => rfl) (fun t => by rw [after3]; unfold Dat.blockOf blk; rfl) t d).trans
    (by unfold Dat.fetched Dat.blockOf blk; rfl)

/-- The result's buffer at an odd point holds the half of the point before. -/
theorem before4 (c : Dev nD) (t : Fin (cfgT hO).N) (d) (h : t.val % 2 = 1) :
    (dats hO 0 c).before (4 : Fin 5) t d = half hO c ⟨t.val - 1, by have := t.isLt; omega⟩ := by
  have hc : ∀ (t : Fin (cfgT hO).N) (_ : t.val ≠ 0), (cfgT hO).idle (4 : Fin 5) ((cfgT hO).grid.coords t) = true → (cfgT hO).fresh (4 : Fin 5) t.val = false →
      (dats hO 0 c).after (4 : Fin 5) t = (dats hO 0 c).after (4 : Fin 5) ⟨t.val - 1, by omega⟩ := fun t _ hi => by
    rw [idle4] at hi; exact absurd hi (by decide)
  have hf : (cfgT hO).fresh (4 : Fin 5) t.val = false := by rw [fresh4, beq_eq_false_iff_ne]; omega
  rw [(dats hO 0 c).before_out_traj (4 : Fin 5) rfl (fun _ _ => rfl) hc t.val t rfl d, hf, if_neg (by decide), after4]
  unfold left
  have h2 : (t.val - 1) % 2 = 0 := by omega
  rw [if_pos h2]

/-- The body at point `t`, as the pipeline calls it. -/
abbrev bodyAt (t : Fin (cfgT hO).N) : Prog (TpuEff nD τ sig (Elt Bits) Λ₀ .tc) PUnit :=
  cc0_moe_experts ((cfgT hO).grid.coords t) (Memref.whole main_arg1) (Memref.isWhole_whole _) (st0 hO t) (hst0 hO t) (st1 hO t) (hst1 hO t) (st2 hO t) (hst2 hO t) (st3 hO t) (hst3 hO t) (st4 hO t) (hst4 hO t)

set_option maxHeartbeats 4000000 in
/-- The body at any point, from the inputs' blocks and the table, leaves the result's buffer at `left`. -/
theorem sound_body (c : Dev nD) (t : Fin (cfgT hO).N) :
    iprop((dats hO 0 c).Φ t.castSucc ∗ (dats hO 0 c).owesAt () t.castSucc
        ∗ (∃ d, owns (c : Thread nD τ) (st0 hO t) fullShare ((dats hO 0 c).before (0 : Fin 5) t d))
        ∗ (∃ d, owns (c : Thread nD τ) (st1 hO t) fullShare ((dats hO 0 c).before (1 : Fin 5) t d))
        ∗ (∃ d, owns (c : Thread nD τ) (st2 hO t) fullShare ((dats hO 0 c).before (2 : Fin 5) t d))
        ∗ (∃ d, owns (c : Thread nD τ) (st3 hO t) fullShare ((dats hO 0 c).before (3 : Fin 5) t d))
        ∗ (∃ d, owns (c : Thread nD τ) (st4 hO t) fullShare ((dats hO 0 c).before (4 : Fin 5) t d)))
      ⊢ wp frame (wpE (defs₀ (F := Bits)) Variants.none c none) Set.univ (bodyAt hO t) fun _ =>
          iprop((dats hO 0 c).Φ t.succ ∗ (dats hO 0 c).owesAt () t.succ
            ∗ bigSep Finset.univ fun w : Fin (cfgT hO).W =>
                match (cfgT hO).idle w ((cfgT hO).grid.coords t) with
                | true =>
                  match ((cfgT hO).win w).flush t with
                  | false => iprop(∃ d, owns (c : Thread nD τ) (((cfgT hO).win w).stage ((cfgT hO).slots t w)) fullShare ((dats hO 0 c).before w t d))
                  | true => owns (c : Thread nD τ) (((cfgT hO).win w).stage ((cfgT hO).slots t w)) fullShare ((dats hO 0 c).after w t)
                | false => owns (c : Thread nD τ) (((cfgT hO).win w).stage ((cfgT hO).slots t w)) fullShare ((dats hO 0 c).after w t)) := by
  rw [bigSep_W0]
  rewrite [idle4]
  simp only [before0, before1, before2, before3, after0, after1, after2, after3, after4]
  rewrite [show (dats hO 0 c).Φ t.succ = Phi (m := m) c from rfl, show (dats hO 0 c).Φ t.castSucc = Phi (m := m) c from rfl,
    show (dats hO 0 c).owesAt () t.succ = (dats hO 0 c).owesAt () t.castSucc from rfl]
  unfold Phi
  rcases Nat.mod_two_eq_zero_or_one t.val with h | h
  · have k1 := (even_iff t).2 h
    have k2 : ¬(k0_cond2 (grid0.coords t) = 1#1) := fun k => by have := (odd_iff t).1 k; omega
    have e : left hO c t = out0_A_4 c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) k1 k2 := by
      unfold left; rw [if_pos h]; exact (first_out c (grid0.coords t) _ _ _ _ _ _ _ _ _ _ _ _ _ _ _ _ _).symm
    rewrite [e]
    iintro ⟨HT0, Ho, ⟨%d0, H0⟩, ⟨%d1, H1⟩, ⟨%d2, H2⟩, ⟨%d3, H3⟩, ⟨%d4, H4⟩⟩
    iapply ((kernelRun0_A c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) k1 k2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexists _; iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _)
  · have k2 := (odd_iff t).2 h
    have k1 : ¬(k0_cond1 (grid0.coords t) = 1#1) := fun k => by have := (even_iff t).1 k; omega
    have e : left hO c t = out0_B_4 c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) (half hO c ⟨t.val - 1, by have := t.isLt; omega⟩) k1 k2 := by
      unfold left; rw [if_neg (by omega)]; exact (second_out c (grid0.coords t) _ _ _ _ _ _ _ _ _ _ _ _ _ _ _ _ _ _).symm
    rewrite [e]
    simp only [before4 hO c t _ h]
    iintro ⟨HT0, Ho, ⟨%d0, H0⟩, ⟨%d1, H1⟩, ⟨%d2, H2⟩, ⟨%d3, H3⟩, ⟨%d4, H4⟩⟩
    iapply ((kernelRun0_B c (grid0.coords t) (st0 hO t) (hst0 hO t) (st1 hO t) (hst1 hO t) (st2 hO t) (hst2 hO t) (st3 hO t) (hst3 hO t) (st4 hO t) (hst4 hO t) (tab m) (blk hO c (0 : Fin 5) t) (blk hO c (1 : Fin 5) t) (blk hO c (2 : Fin 5) t) (blk hO c (3 : Fin 5) t) _ k1 k2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [H4]; · iexact H4
    iintro ⟨H0, H1, H2, H3, HT0, ⟨%e4, H4⟩⟩
    isplitl [HT0]; · iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The body's obligation at every point. -/
theorem obligation (c : Dev nD) : BodyObligation (dats hO 0 c) (defs₀ (F := Bits)) Variants.none () Set.univ := fun t => by
  rw [bigSep_W0]
  exact sound_body hO c t

/-! ## The launch -/

/-- The launch's element of the rounds' resource algebra. -/
def u₀ : UR sig nD τ :=
  initOf (Pipeline.cells (pcs hO) ((launch0 (F := Bits)).cellOf_inj fun _ => adm hO))
    (Pipeline.launchToks (pcs hO) ((launch0 (F := Bits)).cellOf_inj fun _ => adm hO))

/-- Every window is held in full. -/
theorem share_eq (c : Dev nD) (w : Fin (cfgT hO).W) : (dats hO 0 c).share w = fullShare := by unfold Dat.share; split <;> rfl

/-- The table as the launch hands it to the region. -/
theorem held_eq (c : Dev nD) (q : Fin 1 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The invariant at the first point, from the table; -/
theorem phi_intro (c : Dev nD) :
    iprop(BI.emp ∗ Pipeline.prefHeld pre0 c (fun _ => fullShare.right) (adm hO).1 ∗ Pipeline.scopedRest spec0 c) ⊢ (dats hO 0 c).Φ 0 := by
  rw [held_eq, scopedRest0_eq, show (dats hO 0 c).Φ 0 = Phi (m := m) c from rfl]
  unfold Phi
  iintro ⟨-, HT0, -⟩
  iexact HT0

/-- at the last point the table is let go. -/
theorem phi_exit (c : Dev nD) : (dats hO 0 c).Φ (Fin.last (cfgT hO).N) ⊢ iprop(BI.emp ∗ Pipeline.scopedRest spec0 c) := by
  rw [scopedRest0_eq, show (dats hO 0 c).Φ (Fin.last (cfgT hO).N) = Phi (m := m) c from rfl]
  unfold Phi
  iintro -
  isplitr; · iempintro
  iempintro

/-- The memory at the end: every array at the pipeline's contents, the table as it was. -/
def Final : PUnit × MemSt nD τ sig (Elt Bits) → Prop := fun r =>
  ∀ c : Dev nD, (∀ w : Fin (cfgT hO).W, r.2.mem (((cfgT hO).win w).arr.view.loc (c : Thread nD τ)) = (dats hO 0 c).arrAt w (cfgT hO).N)
    ∧ ∀ j, r.2.mem ((c : Thread nD τ).loc (pre0.ref j)) = tbl m j

/-- The table is the same array on every core. -/
theorem table_everywhere (c : Dev nD) (j : Fin 1) : m ((c : Thread nD τ).loc (pre0.ref j)) = (adm hO).1 j := by
  obtain rfl : c = 0 := Subsingleton.elim _ _; rfl

set_option backward.isDefEq.respectTransparency.types false in
set_option maxHeartbeats 4000000 in
/-- Every weakly fair execution terminates with the arrays at the pipeline's contents and every counter at zero. -/
theorem run_all : θ_run (defs (F := Bits)) (onTc (τ := τ) (main (F := Bits))) (s₀ m ρ) (fun r => Final hO r ∧ r.2.sem = fun _ => 0) :=
  Pipeline.θ_run_region_noSem_pf_quiescent pcfgs (fun _ => adm hO) (dats hO) () ((launch0 (F := Bits)).cellOf_inj fun _ => adm hO) (0 : Fin 1)
    (launch0 (F := Bits)).win.to₀ (launch0 (F := Bits)).pre (emb₁ : Emb (UR sig nD τ) 𝕄) defs₀ Variants.none m ρ main
    (hbody := fun c => (obligation hO c).loose) (hne := (launch0 (F := Bits)).block_pos)
    (harr := (launch0 (F := Bits)).arr_whole) (hstage := (launch0 (F := Bits)).stage_whole) (howed := fun _ _ => rfl)
    (u₀ := u₀ hO) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hO) (dats hO) 0 (launch0 (F := Bits)).win.arr_inj c (launch0 (F := Bits)).arr_whole
      (share_eq hO c) _ _ fun _ => rfl)
    (hpf := table_everywhere hO)
    (X := fun _ => iprop(emp)) (Y := fun _ => iprop(emp)) (Z := fun _ => iprop(emp))
    (hX := fun c => by rw [unscopedRestP0_eq]; iintro -; isplitr <;> iempintro)
    (hin := phi_intro hO)
    (hout := phi_exit hO)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result ends at the pipeline's contents and the arguments end unchanged. -/
theorem run : θ_run (defs (F := Bits)) (onTc (τ := τ) (main (F := Bits))) ⟨m, fun _ => 0, ρ⟩ (fun r => ∀ c : Dev nD,
      r.2.mem ((c.tc : Thread nD τ).loc main_v0) = (dats hO 0 c).arrAt (4 : Fin 5) (cfgT hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 (4 : Fin 5),
    ((h.1 c).1 (0 : Fin 5)).trans ((dats hO 0 c).arrAt_in (0 : Fin 5) rfl _), ((h.1 c).2 0).trans (table_everywhere hO c 0).symm,
    ((h.1 c).1 (1 : Fin 5)).trans ((dats hO 0 c).arrAt_in (1 : Fin 5) rfl _), ((h.1 c).1 (2 : Fin 5)).trans ((dats hO 0 c).arrAt_in (2 : Fin 5) rfl _),
    ((h.1 c).1 (3 : Fin 5)).trans ((dats hO 0 c).arrAt_in (3 : Fin 5) rfl _)⟩) (run_all ρ hO)

include hO in
/-- The frame: the arguments end unchanged and every counter ends at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (run ρ hO)) ((θ_run defs _ _).mono (fun _ h => h.2) (run_all ρ hO))

end Cert.Experts.Tables

end
-- ==== Proof.ExpertsRange.lean ====
module

public import proofs.«01_k».proof.Proof.ExpertsTables
public import proofs.«01_k».proof.Proof.ExpertsBitsTables
public import proofs.«01_k».proof.Proof.Gen.Pre_names_experts
public import proofs.«01_k».proof.Proof.Gen.Experts
public import proofs.«01_k».proof.Proof.Gen.ExpertsIdeal
public import Idealize.ShloMosaic.Lib.ReduceAll
public import Idealize.ShloMosaic.Lib.WordCmp
public import Idealize.ShloMosaic.Lib.Affine

@[expose] public section

set_option maxRecDepth 16384

namespace Cert.ExpertsRange

open Idealize.ShloMosaic Idealize.ShloMosaic.TcCoe

/-- The precondition says that every word of the table, read unsigned, is below eight. -/
theorem named {F : FTy → Type} [FloatOps F] (x : FVec F Cert.Pre_names_experts.S71680x1024 .f32) (t : IVec Cert.Pre_names_experts.S140 32)
    (a : FVec F Cert.Pre_names_experts.S8x1024x3584 .bf16) (b : FVec F Cert.Pre_names_experts.S8x1024x3584 .bf16) (c : FVec F Cert.Pre_names_experts.S8x3584x1024 .bf16)
    (h : Cert.Pre_names_experts.fn (F := F) x t a b c = fun _ => 1#1) (k : Cert.Pre_names_experts.S140.Idx) : (t k).toNat < 8 := by
  have : Subsingleton Cert.Pre_names_experts.S_.Idx := ⟨fun i j => funext fun a => a.elim0⟩
  have e := congrFun h (fun a => a.elim0)
  unfold Cert.Pre_names_experts.fn at e
  have e1 := Host.reduce_andi_all _ _ _ _ _ e k
  have e2 : IntOp.andi (IntOp.cmpi .sge (t k) 0#32) (IntOp.cmpi .slt (t k) (BitVec.ofNat 32 8)) = 1#1 := e1
  rw [WordCmp.andi_sge_zero_slt_ofNat (by decide)] at e2
  by_contra hn
  rw [decide_eq_false hn] at e2
  exact absurd e2 (by decide)

end Cert.ExpertsRange

namespace Cert.ExpertsIdeal.Tables

open Cert.ExpertsIdeal Cert.ExpertsIdeal.Gen
open Idealize.ShloMosaic Idealize.ShloMosaic.TcCoe

variable {m : (ℓ : Loc nD τ sig) → Buf (Elt Ideal) ℓ}

/-- A scalar read of the table at grid point `i` is the word of the point's tile. -/
theorem word_read (T : S140.Idx → Elt Ideal .i32) (i : grid0.Coords) :
    T ((Rect.unit (s := S140) (k0_off1 i) S1.size (k0_off1_inb i)).emb (Shape.Idx.first (numel1_S1.symm ▸ Nat.one_pos))) = T (fun a => ⟨(i 0).val, by obtain rfl : a = 0 := Subsingleton.elim _ _; exact (i 0).isLt⟩) := by
  congr 1
  funext a
  obtain rfl : a = 0 := Subsingleton.elim _ _
  apply Fin.ext
  have h : (i 0).val < 140 := (i 0).isLt
  show (BitVec.ofNat 32 (i 0).val).toNat + 0 = (i 0).val
  rw [BitVec.toNat_ofNat]
  omega

/-- Window 1's block at a grid point: the expert that the table names for the point's tile, and the point's half of its hidden columns. -/
theorem index1 (i : grid0.Coords) : cc0_transform_1 k0_off1_inb numel1_S1 (tbl m) i = ![(tab m (fun a => ⟨(i 0).val, by obtain rfl : a = 0 := Subsingleton.elim _ _; exact (i 0).isLt⟩)).toNat, 0, (i 1).val] := by
  have h : (i 1).val < 2 := (i 1).isLt
  have e : (BitVec.ofNat 32 (i 1).val).toNat = (i 1).val := by rw [BitVec.toNat_ofNat]; omega
  rw [← word_read (tab m) i, ← e]; rfl

/-- Window 2's block: the same of the second factor. -/
theorem index2 (i : grid0.Coords) : cc0_transform_2 k0_off1_inb numel1_S1 (tbl m) i = ![(tab m (fun a => ⟨(i 0).val, by obtain rfl : a = 0 := Subsingleton.elim _ _; exact (i 0).isLt⟩)).toNat, 0, (i 1).val] := by
  have h : (i 1).val < 2 := (i 1).isLt
  have e : (BitVec.ofNat 32 (i 1).val).toNat = (i 1).val := by rw [BitVec.toNat_ofNat]; omega
  rw [← word_read (tab m) i, ← e]; rfl

/-- Window 3's block: the same half of the rows of the expert's last factor. -/
theorem index3 (i : grid0.Coords) : cc0_transform_3 k0_off1_inb numel1_S1 (tbl m) i = ![(tab m (fun a => ⟨(i 0).val, by obtain rfl : a = 0 := Subsingleton.elim _ _; exact (i 0).isLt⟩)).toNat, (i 1).val, 0] := by
  have h : (i 1).val < 2 := (i 1).isLt
  have e : (BitVec.ofNat 32 (i 1).val).toNat = (i 1).val := by rw [BitVec.toNat_ofNat]; omega
  rw [← word_read (tab m) i, ← e]; rfl

/-- Where every word of the table names one of the eight experts, every block lies inside the weights. -/
theorem ok_of_named (hw : ∀ k : S140.Idx, (tab m k).toNat < 8) : Ok m := by
  refine ⟨fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [index1]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show (0 + 1) * 1024 ≤ 1024; omega
    · show ((i 1).val + 1) * 1792 ≤ 3584; omega
  · rw [index2]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show (0 + 1) * 1024 ≤ 1024; omega
    · show ((i 1).val + 1) * 1792 ≤ 3584; omega
  · rw [index3]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show ((i 1).val + 1) * 1792 ≤ 3584; omega
    · show (0 + 1) * 1024 ≤ 1024; omega

end Cert.ExpertsIdeal.Tables

namespace Cert.Experts.Tables

open Cert.Experts Cert.Experts.Gen
open Idealize.ShloMosaic Idealize.ShloMosaic.TcCoe

variable {m : (ℓ : Loc nD τ sig) → Buf (Elt Bits) ℓ}

/-- A scalar read of the table at grid point `i` is the word of the point's tile. -/
theorem word_read (T : S140.Idx → Elt Bits .i32) (i : grid0.Coords) :
    T ((Rect.unit (s := S140) (k0_off1 i) S1.size (k0_off1_inb i)).emb (Shape.Idx.first (numel1_S1.symm ▸ Nat.one_pos))) = T (fun a => ⟨(i 0).val, by obtain rfl : a = 0 := Subsingleton.elim _ _; exact (i 0).isLt⟩) := by
  congr 1
  funext a
  obtain rfl : a = 0 := Subsingleton.elim _ _
  apply Fin.ext
  have h : (i 0).val < 140 := (i 0).isLt
  show (BitVec.ofNat 32 (i 0).val).toNat + 0 = (i 0).val
  rw [BitVec.toNat_ofNat]
  omega

/-- Window 1's block at a grid point: the expert that the table names for the point's tile, and the point's half of its hidden columns. -/
theorem index1 (i : grid0.Coords) : cc0_transform_1 k0_off1_inb numel1_S1 (tbl m) i = ![(tab m (fun a => ⟨(i 0).val, by obtain rfl : a = 0 := Subsingleton.elim _ _; exact (i 0).isLt⟩)).toNat, 0, (i 1).val] := by
  have h : (i 1).val < 2 := (i 1).isLt
  have e : (BitVec.ofNat 32 (i 1).val).toNat = (i 1).val := by rw [BitVec.toNat_ofNat]; omega
  rw [← word_read (tab m) i, ← e]; rfl

/-- Window 2's block: the same of the second factor. -/
theorem index2 (i : grid0.Coords) : cc0_transform_2 k0_off1_inb numel1_S1 (tbl m) i = ![(tab m (fun a => ⟨(i 0).val, by obtain rfl : a = 0 := Subsingleton.elim _ _; exact (i 0).isLt⟩)).toNat, 0, (i 1).val] := by
  have h : (i 1).val < 2 := (i 1).isLt
  have e : (BitVec.ofNat 32 (i 1).val).toNat = (i 1).val := by rw [BitVec.toNat_ofNat]; omega
  rw [← word_read (tab m) i, ← e]; rfl

/-- Window 3's block: the same half of the rows of the expert's last factor. -/
theorem index3 (i : grid0.Coords) : cc0_transform_3 k0_off1_inb numel1_S1 (tbl m) i = ![(tab m (fun a => ⟨(i 0).val, by obtain rfl : a = 0 := Subsingleton.elim _ _; exact (i 0).isLt⟩)).toNat, (i 1).val, 0] := by
  have h : (i 1).val < 2 := (i 1).isLt
  have e : (BitVec.ofNat 32 (i 1).val).toNat = (i 1).val := by rw [BitVec.toNat_ofNat]; omega
  rw [← word_read (tab m) i, ← e]; rfl

/-- Where every word of the table names one of the eight experts, every block lies inside the weights. -/
theorem ok_of_named (hw : ∀ k : S140.Idx, (tab m k).toNat < 8) : Ok m := by
  refine ⟨fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [index1]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show (0 + 1) * 1024 ≤ 1024; omega
    · show ((i 1).val + 1) * 1792 ≤ 3584; omega
  · rw [index2]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show (0 + 1) * 1024 ≤ 1024; omega
    · show ((i 1).val + 1) * 1792 ≤ 3584; omega
  · rw [index3]
    have h8 := hw (fun a => ⟨(i 0).val, by obtain rfl : a = 0 := Subsingleton.elim _ _; exact (i 0).isLt⟩)
    generalize (tab m _).toNat = e at *
    have h : (i 1).val < 2 := (i 1).isLt
    intro a
    fin_cases a
    · show (e + 1) * 1 ≤ 8; omega
    · show ((i 1).val + 1) * 1792 ≤ 3584; omega
    · show (0 + 1) * 1024 ≤ 1024; omega

end Cert.Experts.Tables
-- ==== Proof.ExpertsReferenceValue.lean ====
module

public import proofs.«01_k».proof.Proof.Gen.ExpertsReferenceIdeal.Run
public import Idealize.ShloMosaic.Lib.Pointwise
public import Idealize.ShloMosaic.Lib.WordCmp

@[expose] public section

set_option maxRecDepth 16384

noncomputable section

namespace Cert.ExpertsValue

open Idealize.ShloMosaic Idealize.ShloMosaic.TcCoe Idealize.SL.Sem

section Spec

open Cert.ExpertsReferenceIdeal

/-- The expert of a tile of 512 rows: the table's word, below eight under the precondition. -/
def expert (be : S140.Idx → BitVec 32) (t : Fin 140) : Fin 8 := ⟨(be (ix1 t)).toNat % 8, Nat.mod_lt _ (by decide)⟩

/-- A row times column `n` of expert `e`'s expanding matrix. -/
def expanded (x : Fin 1024 → EReal) (W : S8x1024x3584.Idx → EReal) (e : Fin 8) (n : Fin 3584) : EReal :=
  ∑ k : Fin 1024, x k * W (ix3 e k n)

/-- The gated hidden row of an expert: silu of the first expansion times the second. -/
def hidden (x : Fin 1024 → EReal) (W1 W3 : S8x1024x3584.Idx → EReal) (e : Fin 8) (n : Fin 3584) : EReal :=
  expanded x W1 e n * Ideal.div 1 (1 + Ideal.exp (-expanded x W1 e n)) * expanded x W3 e n

/-- Row `r` of tile `t` through the tile's expert, column `j`. -/
def routed (xs : S71680x1024.Idx → EReal) (be : S140.Idx → BitVec 32) (W1 W3 : S8x1024x3584.Idx → EReal) (W2 : S8x3584x1024.Idx → EReal)
    (t : Fin 140) (r : Fin 512) (j : Fin 1024) : EReal :=
  ∑ n : Fin 3584, hidden (fun k => xs (ix2 ⟨t.val * 512 + r.val, by omega⟩ k)) W1 W3 (expert be t) n * W2 (ix3 (expert be t) n j)

/-- The whole result: every row of the 71680 through its tile's expert. -/
def result (xs : S71680x1024.Idx → EReal) (be : S140.Idx → BitVec 32) (W1 W3 : S8x1024x3584.Idx → EReal) (W2 : S8x3584x1024.Idx → EReal) :
    S71680x1024.Idx → EReal := fun i =>
  routed xs be W1 W3 W2 ⟨(i 0).val / 512, by have := (i 0).isLt; show _ < 140; change (i 0).val < 71680 at this; omega⟩
    ⟨(i 0).val % 512, Nat.mod_lt _ (by decide)⟩ (i 1)

/-- The result at row `r` of tile `t`. -/
theorem result_at (xs : S71680x1024.Idx → EReal) (be : S140.Idx → BitVec 32) (W1 W3 : S8x1024x3584.Idx → EReal) (W2 : S8x3584x1024.Idx → EReal)
    (t : Fin 140) (r : Fin 512) (j : Fin 1024) :
    result xs be W1 W3 W2 (ix2 (⟨t.val * 512 + r.val, by omega⟩ : Fin 71680) j) = routed xs be W1 W3 W2 t r j := by
  have h : ∀ (a : Fin 140) (b : Fin 512), a = t → b = r → routed xs be W1 W3 W2 a b j = routed xs be W1 W3 W2 t r j := by rintro _ _ rfl rfl; rfl
  exact h _ _ (Fin.ext (by show (t.val * 512 + r.val) / 512 = t.val; omega)) (Fin.ext (by show (t.val * 512 + r.val) % 512 = r.val; omega))

end Spec

section Reference

open Cert.ExpertsReferenceIdeal Cert.ExpertsReferenceIdeal.Gen Cert.ExpertsReferenceIdeal.Facts

/-- Taking one matrix per tile off the expanding weights. -/
theorem taken_expanding (w : FVec Ideal S8x1024x3584 .f32) (idx : IVec S140x1 32) (t : Fin 140) (k : Fin 1024) (n : Fin 3584) :
    Host.gather gather_S8x1024x3584_S140x1_S140x1024x3584_12_0_n_n_0_1_110243584 w idx (ix3 t k n)
      = w (ix3 ⟨min (idx (ix2 t 0)).toInt.toNat 7, by omega⟩ k n) := by
  unfold Host.gather
  congr 1
  funext a
  refine Fin.ext ?_
  show gather_S8x1024x3584_S140x1_S140x1024x3584_12_0_n_n_0_1_110243584.start (ix3 t k n) idx a
    + gather_S8x1024x3584_S140x1_S140x1024x3584_12_0_n_n_0_1_110243584.batchCoord (ix3 t k n) a
    + gather_S8x1024x3584_S140x1_S140x1024x3584_12_0_n_n_0_1_110243584.offCoord (ix3 t k n) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 3) ∈ [(0 : Fin 3)] from List.mem_singleton.mpr rfl)).trans ?_
    have hsi : gather_S8x1024x3584_S140x1_S140x1024x3584_12_0_n_n_0_1_110243584.siIdx (ix3 t k n) ⟨List.idxOf (0 : Fin 3) [(0 : Fin 3)],
        List.idxOf_lt_length_iff.2 (List.mem_singleton.mpr rfl)⟩ = ix2 t 0 := by
      funext b; refine Fin.ext ?_
      match b with
      | ⟨0, _⟩ => rfl
      | ⟨1, _⟩ => rfl
    exact congrArg (fun z => min (idx z).toInt.toNat 7) hsi
  | ⟨1, _⟩ =>
    unfold GatherDims.start
    refine (congrArg (fun z => z + 0 + _) (dif_neg (show ¬((1 : Fin 3) ∈ [(0 : Fin 3)]) by decide))).trans ?_
    rw [Nat.zero_add]
    rfl
  | ⟨2, _⟩ =>
    unfold GatherDims.start
    refine (congrArg (fun z => z + 0 + _) (dif_neg (show ¬((2 : Fin 3) ∈ [(0 : Fin 3)]) by decide))).trans ?_
    rw [Nat.zero_add]
    rfl

/-- Taking one matrix per tile off the contracting weights. -/
theorem taken_contracting (w : FVec Ideal S8x3584x1024 .f32) (idx : IVec S140x1 32) (t : Fin 140) (n : Fin 3584) (k : Fin 1024) :
    Host.gather gather_S8x3584x1024_S140x1_S140x3584x1024_12_0_n_n_0_1_135841024 w idx (ix3 t n k)
      = w (ix3 ⟨min (idx (ix2 t 0)).toInt.toNat 7, by omega⟩ n k) := by
  unfold Host.gather
  congr 1
  funext a
  refine Fin.ext ?_
  show gather_S8x3584x1024_S140x1_S140x3584x1024_12_0_n_n_0_1_135841024.start (ix3 t n k) idx a
    + gather_S8x3584x1024_S140x1_S140x3584x1024_12_0_n_n_0_1_135841024.batchCoord (ix3 t n k) a
    + gather_S8x3584x1024_S140x1_S140x3584x1024_12_0_n_n_0_1_135841024.offCoord (ix3 t n k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 3) ∈ [(0 : Fin 3)] from List.mem_singleton.mpr rfl)).trans ?_
    have hsi : gather_S8x3584x1024_S140x1_S140x3584x1024_12_0_n_n_0_1_135841024.siIdx (ix3 t n k) ⟨List.idxOf (0 : Fin 3) [(0 : Fin 3)],
        List.idxOf_lt_length_iff.2 (List.mem_singleton.mpr rfl)⟩ = ix2 t 0 := by
      funext b; refine Fin.ext ?_
      match b with
      | ⟨0, _⟩ => rfl
      | ⟨1, _⟩ => rfl
    exact congrArg (fun z => min (idx z).toInt.toNat 7) hsi
  | ⟨1, _⟩ =>
    unfold GatherDims.start
    refine (congrArg (fun z => z + 0 + _) (dif_neg (show ¬((1 : Fin 3) ∈ [(0 : Fin 3)]) by decide))).trans ?_
    rw [Nat.zero_add]
    rfl
  | ⟨2, _⟩ =>
    unfold GatherDims.start
    refine (congrArg (fun z => z + 0 + _) (dif_neg (show ¬((2 : Fin 3) ∈ [(0 : Fin 3)]) by decide))).trans ?_
    rw [Nat.zero_add]
    rfl

/-- The start index that the reference computes for tile `t`, a word below eight, is the tile's expert. -/
theorem start_index (be : IVec S140 32) (t : Fin 140) (h : (be (ix1 t)).toNat < 8) :
    min ((broadcastInDim S140x1 ![0] bcast_S140_S140x1_0 (select (cmpi .slt be (broadcastInDim S140 ![] bcast_S_S140 (constantI S_ 32 0#32)))
      (addi be (broadcastInDim S140 ![] bcast_S_S140 (constantI S_ 32 8#32))) be) : IVec S140x1 32) (ix2 t 0)).toInt.toNat 7 = (expert be t).val := by
  have e : (broadcastInDim S140x1 ![0] bcast_S140_S140x1_0 (select (cmpi .slt be (broadcastInDim S140 ![] bcast_S_S140 (constantI S_ 32 0#32)))
      (addi be (broadcastInDim S140 ![] bcast_S_S140 (constantI S_ 32 8#32))) be) : IVec S140x1 32) (ix2 t 0) = be (ix1 t) := by
    pointwise
    have h0 : ¬ (be (ix1 t)).toInt < 0 := by
      rw [BitVec.toInt_eq_toNat_of_lt (by omega)]; omega
    have hc : IntOp.cmpi .slt (be (ix1 t)) 0#32 = 0#1 := by
      rw [WordCmp.cmpi_slt_zero, decide_eq_false (by omega)]; rfl
    rw [hc]
    rfl
  rw [e, BitVec.toInt_eq_toNat_of_lt (by omega)]
  show min (((be (ix1 t)).toNat : Int)).toNat 7 = (be (ix1 t)).toNat % 8
  rw [Int.toNat_natCast]; omega

/-- The reference's start indices from the table. -/
abbrev starts (be : IVec S140 32) : IVec S140x1 32 :=
  broadcastInDim S140x1 ![0] bcast_S140_S140x1_0 (select (cmpi .slt be (broadcastInDim S140 ![] bcast_S_S140 (constantI S_ 32 0#32)))
    (addi be (broadcastInDim S140 ![] bcast_S_S140 (constantI S_ 32 8#32))) be)

/-- The reference's batched product of the tiles with an expanding matrix each. -/
abbrev expandedAll (xs : FVec Ideal S71680x1024 .f32) (be : IVec S140 32) (w : FVec Ideal S8x1024x3584 .bf16) : FVec Ideal S140x512x3584 .f32 :=
  Host.dotGeneral dot_S140x512x1024_S140x1024x3584_S140x512x3584_2_1_1_2_0_0 none (shapeCast S140x512x1024 xs shapeCasts_S71680x1024_S140x512x1024)
    (Host.gather gather_S8x1024x3584_S140x1_S140x1024x3584_12_0_n_n_0_1_110243584 (extf .f32 w bitsLt_bf16_f32) (starts be))

/-- At row `r` of tile `t` and column `n` it is that row times the column of the tile's expert. -/
theorem expandedAll_at (xs : FVec Ideal S71680x1024 .f32) (be : IVec S140 32) (w : FVec Ideal S8x1024x3584 .bf16) (t : Fin 140) (r : Fin 512) (n : Fin 3584)
    (h : (be (ix1 t)).toNat < 8) :
    expandedAll xs be w (ix3 t r n) = expanded (fun k => xs (ix2 ⟨t.val * 512 + r.val, by omega⟩ k)) w (expert be t) n := by
  have hg : ∀ k : Fin 1024, Host.gather gather_S8x1024x3584_S140x1_S140x1024x3584_12_0_n_n_0_1_110243584 (extf .f32 w bitsLt_bf16_f32 : FVec Ideal S8x1024x3584 .f32) (starts be) (ix3 t k n) = w (ix3 (expert be t) k n) := by
    intro k
    rw [taken_expanding, show (⟨min (starts be (ix2 t 0)).toInt.toNat 7, by omega⟩ : Fin 8) = expert be t from Fin.ext (start_index be t h)]
    pointwise
  unfold expandedAll
  generalize Host.gather gather_S8x1024x3584_S140x1_S140x1024x3584_12_0_n_n_0_1_110243584 (extf .f32 w bitsLt_bf16_f32 : FVec Ideal S8x1024x3584 .f32) (starts be) = G at hg ⊢
  pointwise
  simp only [hg, expanded]

/-- The reference's result is every row through its tile's expert. -/
theorem reference_result (xs : FVec Ideal S71680x1024 .f32) (be : IVec S140 32) (W1 W3 : FVec Ideal S8x1024x3584 .bf16) (W2 : FVec Ideal S8x3584x1024 .bf16)
    (t : Fin 140) (r : Fin 512) (j : Fin 1024) (h : (be (ix1 t)).toNat < 8) :
    (shapeCast S71680x1024 (Host.dotGeneral dot_S140x512x3584_S140x3584x1024_S140x512x1024_2_1_1_2_0_0 none
      (mulf (mulf (expandedAll xs be W1) (Host.divf (broadcastInDim S140x512x3584 ![] bcast_S_S140x512x3584 (constant S_ .f32 0x3F800000#32)) (addf (broadcastInDim S140x512x3584 ![] bcast_S_S140x512x3584 (constant S_ .f32 0x3F800000#32)) (Host.exp (Host.negf (expandedAll xs be W1)))))) (expandedAll xs be W3))
      (Host.gather gather_S8x3584x1024_S140x1_S140x3584x1024_12_0_n_n_0_1_135841024 (extf .f32 W2 bitsLt_bf16_f32) (starts be)) : FVec Ideal S140x512x1024 .f32)
      shapeCasts_S140x512x1024_S71680x1024 : FVec Ideal S71680x1024 .f32) (ix2 ⟨t.val * 512 + r.val, by omega⟩ j) = routed xs be W1 W3 W2 t r j := by
  have hg : ∀ n : Fin 3584, Host.gather gather_S8x3584x1024_S140x1_S140x3584x1024_12_0_n_n_0_1_135841024 (extf .f32 W2 bitsLt_bf16_f32 : FVec Ideal S8x3584x1024 .f32) (starts be) (ix3 t n j) = W2 (ix3 (expert be t) n j) := by
    intro n
    rw [taken_contracting, show (⟨min (starts be (ix2 t 0)).toInt.toNat 7, by omega⟩ : Fin 8) = expert be t from Fin.ext (start_index be t h)]
    pointwise
  have h1 := fun n => expandedAll_at xs be W1 t r n h
  have h3 := fun n => expandedAll_at xs be W3 t r n h
  generalize Host.gather gather_S8x3584x1024_S140x1_S140x3584x1024_12_0_n_n_0_1_135841024 (extf .f32 W2 bitsLt_bf16_f32 : FVec Ideal S8x3584x1024 .f32) (starts be) = G at hg ⊢
  generalize expandedAll xs be W1 = H1 at h1 ⊢
  generalize expandedAll xs be W3 = H3 at h3 ⊢
  pointwise
  simp only [hg, h1, h3, routed, hidden]

end Reference

end Cert.ExpertsValue
end
-- ==== Proof.ExpertsValue.lean ====
module

public import proofs.«01_k».proof.Proof.ExpertsRange
public import proofs.«01_k».proof.Proof.ExpertsReferenceValue
public import Idealize.ShloMosaic.Lib.Pointwise
public import Idealize.ShloMosaic.Lib.Pipeline.ValueKit
public import Idealize.ShloMosaic.Lib.Pipeline.Covers

@[expose] public section

set_option maxRecDepth 16384

noncomputable section

namespace Cert.ExpertsValue

open Idealize.ShloMosaic Idealize.ShloMosaic.TcCoe Idealize.SL.Sem
open Cert.ExpertsIdeal Cert.ExpertsIdeal.Gen Cert.ExpertsIdeal.Tables

/-- The body's half at row `r`, column `j` of its blocks: the hidden row over the block's 1792 columns, contracted. -/
theorem half_at (P0 : Vec Ideal S512x1024 .f32) (P1 P2 : Vec Ideal S1x1024x1792 .bf16) (P3 : Vec Ideal S1x1792x1024 .bf16) (r : Fin 512) (j : Fin 1024) :
    k0_pay1 (F := Ideal) P0 P1 P2 P3 (ix2 r j) = ∑ n : Fin 1792,
      (∑ k : Fin 1024, P0 (ix2 r k) * P1 (ix3 0 k n)) * Ideal.div 1 (1 + Ideal.exp (-(∑ k : Fin 1024, P0 (ix2 r k) * P1 (ix3 0 k n))))
        * (∑ k : Fin 1024, P0 (ix2 r k) * P2 (ix3 0 k n)) * P3 (ix3 0 n j) := by
  pointwise [k0_pay1]
  simp only [zero_sub]

/-- The odd points' sum at an index. -/
theorem sum_at (P0 : Vec Ideal S512x1024 .f32) (P1 P2 : Vec Ideal S1x1024x1792 .bf16) (P3 : Vec Ideal S1x1792x1024 .bf16) (P4 : Vec Ideal S512x1024 .f32) (r : Fin 512) (j : Fin 1024) :
    k0_pay2 (F := Ideal) P0 P1 P2 P3 P4 (ix2 r j) = P4 (ix2 r j) + k0_pay1 (F := Ideal) P0 P1 P2 P3 (ix2 r j) := by
  generalize h : k0_pay1 (F := Ideal) P0 P1 P2 P3 = H
  simp only [k0_pay2, h]
  pointwise

variable {m : (ℓ : Loc nD τ sig) → Buf (Elt Ideal) ℓ} (hO : Ok m)

/-- The two coordinates of a grid point: its tile and its half. -/
theorem coord0 (t : Fin grid0.N) : (grid0.coords t 0).val = t.val / 2 := by
  have ht : t.val < 280 := Nat.lt_of_lt_of_eq t.isLt N_0
  rw [show (grid0.coords t 0).val = t.val / 2 % 140 from Pipeline.Grid.coords_val t 0 (by decide) rfl]; omega
/-- The second grid coordinate is the parity of the step. -/
theorem coord1 (t : Fin grid0.N) : (grid0.coords t 1).val = t.val % 2 := by
  rw [show (grid0.coords t 1).val = t.val / 1 % 2 from Pipeline.Grid.coords_val t 1 (by decide) rfl, Nat.div_one]

/-- The block indices of the five windows at point `t`. -/
theorem index_rows (t : Fin grid0.N) : cc0_transform_0 (grid0.coords t) = ![t.val / 2, 0] := by
  have ht : t.val < 280 := Nat.lt_of_lt_of_eq t.isLt N_0
  have e := coord0 t
  have e' : (BitVec.ofNat 32 (grid0.coords t 0).val).toNat = t.val / 2 := by rw [BitVec.toNat_ofNat, e]; omega
  rw [← e']; rfl
/-- The result block of a step is its row block. -/
theorem index_result (t : Fin grid0.N) : cc0_transform_4 (grid0.coords t) = ![t.val / 2, 0] := by
  have ht : t.val < 280 := Nat.lt_of_lt_of_eq t.isLt N_0
  have e := coord0 t
  have e' : (BitVec.ofNat 32 (grid0.coords t 0).val).toNat = t.val / 2 := by rw [BitVec.toNat_ofNat, e]; omega
  rw [← e']; rfl

/-- The block of the first expanding matrix at a point: the tile's expert, whole rows, the point's half. -/
theorem index_w1 (t : Fin grid0.N) : cc0_transform_1 k0_off1_inb numel1_S1 (tbl m) (grid0.coords t) = ![(tab m (ix1 (⟨t.val / 2, by have : t.val < 280 := Nat.lt_of_lt_of_eq t.isLt N_0; omega⟩ : Fin 140))).toNat, 0, t.val % 2] := by
  rw [index1, coord1]
  have : (fun a => ⟨(grid0.coords t 0).val, by obtain rfl : a = 0 := Subsingleton.elim _ _; exact (grid0.coords t 0).isLt⟩ : S140.Idx) = ix1 (⟨t.val / 2, by have : t.val < 280 := Nat.lt_of_lt_of_eq t.isLt N_0; omega⟩ : Fin 140) := by
    funext a; obtain rfl : a = 0 := Subsingleton.elim _ _; exact Fin.ext (coord0 t)
  rw [this]
/-- The second weight block of a step is that of the named expert. -/
theorem index_w3 (t : Fin grid0.N) : cc0_transform_2 k0_off1_inb numel1_S1 (tbl m) (grid0.coords t) = ![(tab m (ix1 (⟨t.val / 2, by have : t.val < 280 := Nat.lt_of_lt_of_eq t.isLt N_0; omega⟩ : Fin 140))).toNat, 0, t.val % 2] := by
  rw [index2, coord1]
  have : (fun a => ⟨(grid0.coords t 0).val, by obtain rfl : a = 0 := Subsingleton.elim _ _; exact (grid0.coords t 0).isLt⟩ : S140.Idx) = ix1 (⟨t.val / 2, by have : t.val < 280 := Nat.lt_of_lt_of_eq t.isLt N_0; omega⟩ : Fin 140) := by
    funext a; obtain rfl : a = 0 := Subsingleton.elim _ _; exact Fin.ext (coord0 t)
  rw [this]
/-- The third weight block of a step is that of the named expert. -/
theorem index_w2 (t : Fin grid0.N) : cc0_transform_3 k0_off1_inb numel1_S1 (tbl m) (grid0.coords t) = ![(tab m (ix1 (⟨t.val / 2, by have : t.val < 280 := Nat.lt_of_lt_of_eq t.isLt N_0; omega⟩ : Fin 140))).toNat, t.val % 2, 0] := by
  rw [index3, coord1]
  have : (fun a => ⟨(grid0.coords t 0).val, by obtain rfl : a = 0 := Subsingleton.elim _ _; exact (grid0.coords t 0).isLt⟩ : S140.Idx) = ix1 (⟨t.val / 2, by have : t.val < 280 := Nat.lt_of_lt_of_eq t.isLt N_0; omega⟩ : Fin 140) := by
    funext a; obtain rfl : a = 0 := Subsingleton.elim _ _; exact Fin.ext (coord0 t)
  rw [this]

/-- The rows' block at a point, read at an index. -/
theorem rows_at (c : Dev nD) (t : Fin (cfgT hO).N) (r : Fin 512) (k : Fin 1024) :
    (blk hO c (0 : Fin 5) t : S512x1024.Idx → EReal) (ix2 r k) = m (c.tc.loc main_arg0) (ix2 (⟨t.val / 2 * 512 + r.val, by have : t.val < 280 := Nat.lt_of_lt_of_eq t.isLt N_0; omega⟩ : Fin 71680) k) := by
  have e : ((pcfg0 (F := Ideal)).win (adm hO) 0).index t = ![t.val / 2, 0] := index_rows t
  blk_ext [blk, e]

/-- The first expanding matrix's block at a point, read at an index. -/
theorem w1_at (hw : ∀ k : S140.Idx, (tab m k).toNat < 8) (c : Dev nD) (t : Fin (cfgT hO).N) (k : Fin 1024) (n : Fin 1792) :
    (blk hO c (1 : Fin 5) t : S1x1024x1792.Idx → EReal) (ix3 0 k n)
      = m (c.tc.loc main_arg2) (ix3 (⟨(tab m (ix1 (⟨t.val / 2, by have : t.val < 280 := Nat.lt_of_lt_of_eq t.isLt N_0; omega⟩ : Fin 140))).toNat, hw _⟩ : Fin 8) k (⟨t.val % 2 * 1792 + n.val, by omega⟩ : Fin 3584)) := by
  have e : ((pcfg0 (F := Ideal)).win (adm hO) 1).index t = _ := index_w1 (m := m) t
  blk_ext [blk, e]

/-- The second expanding matrix's block at a point, read at an index. -/
theorem w3_at (hw : ∀ k : S140.Idx, (tab m k).toNat < 8) (c : Dev nD) (t : Fin (cfgT hO).N) (k : Fin 1024) (n : Fin 1792) :
    (blk hO c (2 : Fin 5) t : S1x1024x1792.Idx → EReal) (ix3 0 k n)
      = m (c.tc.loc main_arg3) (ix3 (⟨(tab m (ix1 (⟨t.val / 2, by have : t.val < 280 := Nat.lt_of_lt_of_eq t.isLt N_0; omega⟩ : Fin 140))).toNat, hw _⟩ : Fin 8) k (⟨t.val % 2 * 1792 + n.val, by omega⟩ : Fin 3584)) := by
  have e : ((pcfg0 (F := Ideal)).win (adm hO) 2).index t = _ := index_w3 (m := m) t
  blk_ext [blk, e]

/-- The contracting matrix's block at a point, read at an index. -/
theorem w2_at (hw : ∀ k : S140.Idx, (tab m k).toNat < 8) (c : Dev nD) (t : Fin (cfgT hO).N) (n : Fin 1792) (k : Fin 1024) :
    (blk hO c (3 : Fin 5) t : S1x1792x1024.Idx → EReal) (ix3 0 n k)
      = m (c.tc.loc main_arg4) (ix3 (⟨(tab m (ix1 (⟨t.val / 2, by have : t.val < 280 := Nat.lt_of_lt_of_eq t.isLt N_0; omega⟩ : Fin 140))).toNat, hw _⟩ : Fin 8) (⟨t.val % 2 * 1792 + n.val, by omega⟩ : Fin 3584) k) := by
  have e : ((pcfg0 (F := Ideal)).win (adm hO) 3).index t = _ := index_w2 (m := m) t
  blk_ext [blk, e]

/-- One half of a routed row: the sum over the half's 1792 hidden columns. -/
def halfSum (xs : S71680x1024.Idx → EReal) (be : S140.Idx → BitVec 32) (W1 W3 : S8x1024x3584.Idx → EReal) (W2 : S8x3584x1024.Idx → EReal)
    (t : Fin 140) (f : Fin 2) (r : Fin 512) (j : Fin 1024) : EReal :=
  ∑ n : Fin 1792, hidden (fun k => xs (ix2 (⟨t.val * 512 + r.val, by omega⟩ : Fin 71680) k)) W1 W3 (expert be t) ⟨f.val * 1792 + n.val, by omega⟩
    * W2 (ix3 (expert be t) (⟨f.val * 1792 + n.val, by omega⟩ : Fin 3584) j)

/-- A routed row is its two halves added. -/
theorem routed_halves (xs : S71680x1024.Idx → EReal) (be : S140.Idx → BitVec 32) (W1 W3 : S8x1024x3584.Idx → EReal) (W2 : S8x3584x1024.Idx → EReal)
    (t : Fin 140) (r : Fin 512) (j : Fin 1024) : routed xs be W1 W3 W2 t r j = halfSum xs be W1 W3 W2 t 0 r j + halfSum xs be W1 W3 W2 t 1 r j := by
  unfold routed halfSum
  generalize hF : (fun n : Fin 3584 => hidden (fun k => xs (ix2 (⟨t.val * 512 + r.val, by omega⟩ : Fin 71680) k)) W1 W3 (expert be t) n * W2 (ix3 (expert be t) n j)) = F
  have hF' := fun n => congrFun hF n
  simp only [hF']
  exact (Fin.sum_univ_add (a := 1792) (b := 1792) F).trans (congrArg₂ (fun a b : EReal => a + b)
    (Finset.sum_congr rfl fun n _ => congrArg F (Fin.ext (by show n.val = 0 * 1792 + n.val; omega)))
    (Finset.sum_congr rfl fun n _ => congrArg F (Fin.ext (by show 1792 + n.val = 1 * 1792 + n.val; omega))))

/-- The body's half at a grid point is the half sum of the point's tile. -/
theorem half_eq (hw : ∀ k : S140.Idx, (tab m k).toNat < 8) (c : Dev nD) (t : Fin (cfgT hO).N) (r : Fin 512) (j : Fin 1024) :
    half hO c t (ix2 r j) = halfSum (m (c.tc.loc main_arg0)) (tab m) (m (c.tc.loc main_arg2)) (m (c.tc.loc main_arg3)) (m (c.tc.loc main_arg4))
      ⟨t.val / 2, by have : t.val < 280 := Nat.lt_of_lt_of_eq t.isLt N_0; omega⟩ ⟨t.val % 2, Nat.mod_lt _ (by decide)⟩ r j := by
  unfold half
  rw [half_at]
  have he : expert (tab m) ⟨t.val / 2, by have : t.val < 280 := Nat.lt_of_lt_of_eq t.isLt N_0; omega⟩ = ⟨(tab m (ix1 (⟨t.val / 2, by have : t.val < 280 := Nat.lt_of_lt_of_eq t.isLt N_0; omega⟩ : Fin 140))).toNat, hw _⟩ :=
    Fin.ext (Nat.mod_eq_of_lt (hw _))
  simp only [rows_at, w1_at hO hw, w3_at hO hw, w2_at hO hw, halfSum, he, hidden, expanded]

/-- The result window's blocks tile the result array. -/
theorem covers : ((cfgT hO).win (4 : Fin 5)).Covers := by
  refine Pipeline.Window.covers_of_indexMap_surj _ rfl (show ∀ a, 0 < S512x1024.size a by decide) fun β => ?_
  have hβ : (β 0).val < 140 := Nat.lt_of_lt_of_eq (β 0).isLt (show (71680 + 512 - 1) / 512 = 140 by decide)
  have h1 : (β 1).val < 1 := Nat.lt_of_lt_of_eq (β 1).isLt (show (1024 + 1024 - 1) / 1024 = 1 by decide)
  refine ⟨grid0.coords ⟨2 * (β 0).val, by rw [N_0]; omega⟩, fun a => ?_⟩
  have e := congrFun (index_result ⟨2 * (β 0).val, by rw [N_0]; omega⟩) a
  refine Eq.trans e ?_
  match a with
  | ⟨0, _⟩ => show 2 * (β 0).val / 2 = (β 0).val; omega
  | ⟨1, _⟩ => show 0 = (β 1).val; omega

/-- The kernel's result array is every row through its tile's expert. -/
theorem kernel_result (hw : ∀ k : S140.Idx, (tab m k).toNat < 8) (c : Dev nD) :
    (dats hO 0 c).arrAt (4 : Fin 5) (cfgT hO).N
      = result (m (c.tc.loc main_arg0)) (tab m) (m (c.tc.loc main_arg2)) (m (c.tc.loc main_arg3)) (m (c.tc.loc main_arg4)) := by
  refine (dats hO 0 c).arrAt_eq_of_covers (4 : Fin 5) _ (covers hO) fun t hf y => ?_
  have h1 := (flush4 hO t).1 hf
  have ht : t.val < 280 := Nat.lt_of_lt_of_eq t.isLt N_0
  rw [after4]
  obtain ⟨y, rfl⟩ : ∃ y' : S512x1024.Idx, y' = y := ⟨y, rfl⟩
  idx_vars y
  have e : ((pcfg0 (F := Ideal)).win (adm hO) 4).index t = ![t.val / 2, 0] := index_result t
  blk_simp
  have hb : (((pcfg0 (F := Ideal)).win (adm hO) 4).blk t).view.emb (ix2 y0 y1) = ix2 (⟨t.val / 2 * 512 + y0.val, by omega⟩ : Fin 71680) y1 := by
    blk_ext [e]
  rw [hb]
  have hleft : left hO c t = k0_pay2 (F := Ideal) (blk hO c (0 : Fin 5) t) (blk hO c (1 : Fin 5) t) (blk hO c (2 : Fin 5) t) (blk hO c (3 : Fin 5) t)
      (half hO c ⟨t.val - 1, by omega⟩) := if_neg (by omega)
  rw [hleft, sum_at]
  have h2 := half_eq hO hw c t y0 y1
  unfold half at h2
  rw [h2, half_eq hO hw c _ y0 y1]
  rw [show (⟨(t.val - 1) / 2, by omega⟩ : Fin 140) = ⟨t.val / 2, by omega⟩ from Fin.ext (by show (t.val - 1) / 2 = t.val / 2; omega),
    show (⟨(t.val - 1) % 2, Nat.mod_lt _ (by decide)⟩ : Fin 2) = 0 from Fin.ext (by show (t.val - 1) % 2 = 0; omega),
    show (⟨t.val % 2, Nat.mod_lt _ (by decide)⟩ : Fin 2) = 1 from Fin.ext h1]
  exact (routed_halves _ _ _ _ _ _ _ _).symm.trans (result_at _ _ _ _ _ ⟨t.val / 2, by omega⟩ y0 y1).symm

end Cert.ExpertsValue
end
-- ==== Proof.ExpertsClaims.lean ====
module

public import proofs.«01_k».proof.Defs
public import proofs.«01_k».proof.Proof.Gen.ExpertsReferenceIdeal
public import proofs.«01_k».proof.Proof.Gen.ExpertsReferenceIdeal.Run
public import proofs.«01_k».proof.Proof.ExpertsValue
public import Idealize.ShloMosaic.Lib.Quiescent

@[expose] public section

set_option maxRecDepth 16384

noncomputable section

namespace Cert.ExpertsClaims

open Idealize.ShloMosaic Idealize.ShloMosaic.TcCoe Idealize.SL.Sem

/-- The experts kernel terminates, leaves its arguments and every counter at zero, where the table names experts. -/
theorem kernel_frame : Cert.quiescent_Experts := fun _ ρ h =>
  Cert.Experts.Tables.frame ρ (Cert.Experts.Tables.ok_of_named fun k => Cert.ExpertsRange.named _ _ _ _ _ (h 0) k)

/-- The idealized experts kernel terminates, leaves its arguments and every counter at zero, where the table names experts. -/
theorem ideal_frame : Cert.quiescent_ExpertsIdeal := fun _ ρ h =>
  Cert.ExpertsIdeal.Tables.frame ρ (Cert.ExpertsIdeal.Tables.ok_of_named fun k => Cert.ExpertsRange.named _ _ _ _ _ (h 0) k)

/-- The experts reference terminates and leaves its arguments; it has no counters. -/
theorem reference_frame : Cert.quiescent_ExpertsReferenceIdeal := fun m ρ _ =>
  (θ_run _ _ _).mono (fun r h => ⟨fun c => (h c).2, sem_eq_zero_of_no_sems (by decide) r.2⟩)
    (Cert.ExpertsReferenceIdeal.Value.run m ρ)

/-- The same, under the precondition. -/
theorem reference_frame_named : Cert.quiescent_ExpertsReferenceIdeal_pre_names_experts := fun m ρ _ => reference_frame m ρ trivial

/-- A row's index is its tile's first row plus its place in the tile. -/
theorem row_split (i : Fin 71680) : i = ⟨(⟨i.val / 512, by omega⟩ : Fin 140).val * 512 + (⟨i.val % 512, Nat.mod_lt _ (by decide)⟩ : Fin 512).val, by
    show i.val / 512 * 512 + i.val % 512 < 71680; omega⟩ :=
  Fin.ext (by show i.val = i.val / 512 * 512 + i.val % 512; omega)

/-- The experts kernel and its reference leave equal results, where the table names experts. -/
theorem experts : Cert.algebraic_ExpertsIdeal_ExpertsReferenceIdeal := by
  intro m g m' g' hpre hag
  have hw : ∀ k, (Cert.ExpertsIdeal.Tables.tab m k).toNat < 8 := fun k => Cert.ExpertsRange.named _ _ _ _ _ (hpre 0) k
  refine ⟨fun c => Cert.ExpertsValue.result (m (c.tc.loc Cert.ExpertsIdeal.main_arg0)) (Cert.ExpertsIdeal.Tables.tab m)
      (m (c.tc.loc Cert.ExpertsIdeal.main_arg2)) (m (c.tc.loc Cert.ExpertsIdeal.main_arg3)) (m (c.tc.loc Cert.ExpertsIdeal.main_arg4)), ?_, ?_⟩
  · refine (θ_run _ _ _).mono (fun r h c => ?_) (Cert.ExpertsIdeal.Tables.run g (Cert.ExpertsIdeal.Tables.ok_of_named hw))
    exact ⟨(h c).1.trans (Cert.ExpertsValue.kernel_result _ hw c), (h c).2⟩
  · refine (θ_run _ _ _).mono (fun r h c => ?_) (Cert.ExpertsReferenceIdeal.Value.run m' g')
    refine ⟨(h c).1.trans (funext fun i => ?_), (h c).2⟩
    obtain ⟨a0, a1, a2, a3, a4⟩ := hag c
    obtain rfl : c = 0 := Subsingleton.elim c 0
    idx_vars i
    rw [a0, a1, a2, a3, a4]
    obtain ⟨t, u, rfl⟩ : ∃ (t : Fin 140) (u : Fin 512), i0 = ⟨t.val * 512 + u.val, by omega⟩ := ⟨_, _, row_split i0⟩
    exact (Cert.ExpertsValue.reference_result _ _ _ _ _ t u i1 (hw (ix1 t))).trans (Cert.ExpertsValue.result_at _ _ _ _ _ t u i1).symm

end Cert.ExpertsClaims

end
-- ==== Proof.RetentionPoint.lean ====
module

public import proofs.«01_k».proof.Proof.Gen.RetentionIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RetentionValue

open Cert.RetentionIdeal Cert.RetentionIdeal.Gen Idealize.ShloMosaic Idealize.ShloMosaic.TcCoe Idealize.SL.Sem

/-- Column `a` of head `h` among the four heads' 256 columns. -/
def col (h : Fin 4) (a : Fin 64) : Fin 256 := ⟨64 * h.val + a.val, by omega⟩

/-- A tile's rotated query: the query times the cosine, plus the swapped query times the sine. -/
def query (P : S1x256x1536.Idx → EReal) (C Sn : S256x256.Idx → EReal) (i j : Fin 256) : EReal :=
  P (ix3 0 i (⟨j.val, by omega⟩ : Fin 1536)) * C (ix2 i j) + P (ix3 0 i (⟨1024 + j.val, by omega⟩ : Fin 1536)) * Sn (ix2 i j)

/-- A tile's rotated key, scaled. -/
def key (P : S1x256x1536.Idx → EReal) (C Sn : S256x256.Idx → EReal) (i j : Fin 256) : EReal :=
  (P (ix3 0 i (⟨256 + j.val, by omega⟩ : Fin 1536)) * C (ix2 i j) + P (ix3 0 i (⟨1280 + j.val, by omega⟩ : Fin 1536)) * Sn (ix2 i j))
    * Ideal.ofBits .f32 1040187392#32

/-- A tile's value. -/
def value (P : S1x256x1536.Idx → EReal) (i j : Fin 256) : EReal := P (ix3 0 i (⟨512 + j.val, by omega⟩ : Fin 1536))

/-- A tile's output of direction `d`, head `h`, at row `i`, column `e`: the decayed products within the tile, and the state's part. -/
def tileOut (P : S1x256x1536.Idx → EReal) (C Sn : S256x256.Idx → EReal) (D : S2x4x256x256.Idx → EReal) (Q : S2x256x256.Idx → EReal)
    (X : S2x4x64x64.Idx → EReal) (d : Fin 2) (h : Fin 4) (i : Fin 256) (e : Fin 64) : EReal :=
  (∑ j : Fin 256, (∑ a : Fin 64, query P C Sn i (col h a) * key P C Sn j (col h a)) * D (ix4 d h i j) * value P j (col h e))
    + ∑ a : Fin 64, query P C Sn i (col h a) * Q (ix3 d i (col h a)) * X (ix4 d h a e)

/-- The state after a tile: the decayed state, and the tile's keys, decayed, times its values. -/
def tileState (P : S1x256x1536.Idx → EReal) (C Sn : S256x256.Idx → EReal) (G : S2x4.Idx → EReal) (K : S2x256x256.Idx → EReal)
    (X : S2x4x64x64.Idx → EReal) (d : Fin 2) (h : Fin 4) (a e : Fin 64) : EReal :=
  X (ix4 d h a e) * G (ix2 d h) + ∑ j : Fin 256, key P C Sn j (col h a) * K (ix3 d j (col h a)) * value P j (col h e)

/-- A column of the second head is past the first. -/
theorem first_not (e : Fin 64) : ¬ 64 + e.val < 64 := by omega
/-- Its place within the second head. -/
theorem second_val (e : Fin 64) : 64 + e.val - 64 = e.val := by omega
/-- A column of the third head is past the first. -/
theorem second_not (e : Fin 64) : ¬ 128 + e.val < 64 := by omega
/-- A column of the third head is past the second. -/
theorem third_not (e : Fin 64) : ¬ 128 + e.val - 64 < 64 := by omega
/-- Its place within the third head. -/
theorem third_mid (e : Fin 64) : 128 + e.val - 64 - 64 = e.val := by omega
/-- A column of the fourth head is past the first. -/
theorem third_val (e : Fin 64) : ¬ 192 + e.val < 64 := by omega
/-- A column of the fourth head is past the second. -/
theorem fourth_not (e : Fin 64) : ¬ 192 + e.val - 64 < 64 := by omega
/-- A column of the fourth head is past the third. -/
theorem fourth_mid (e : Fin 64) : ¬ 192 + e.val - 64 - 64 < 64 := by omega
/-- Its place within the fourth head. -/
theorem fourth_mid' (e : Fin 64) : 192 + e.val - 64 - 64 - 64 = e.val := by omega
/-- The fourth head is numbered three. -/
theorem fourth_val : (3 : Fin 4).val = 3 := rfl
/-- The third head is numbered two. -/
theorem fin2_val : (2 : Fin 4).val = 2 := rfl

/-- Where some of the last stores cover an index, what was stored before them does not matter there. -/
theorem canon_over {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, h => by obtain ⟨_, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_over L' L y ⟨q, hq, hy⟩

variable (m : (ℓ : Loc nD τ sig) → Buf (Elt Ideal) ℓ)

/-- What the first point of a run writes of the forward result. -/
theorem forward_A (c : Dev nD) (t : Fin cfg0.N) (h0 : t.val % 33 = 0) (h : Fin 4) (i : Fin 256) (e : Fin 64) :
    (outsAt0 m c t.val t.isLt).1 (ix3 0 i (col h e))
      = tileOut (iblk m c 1 t) (iblk m c 3 t) (iblk m c 4 t) (iblk m c 7 t) (iblk m c 8 t) (fun _ => 0) 0 h i e := by
  rw [outsAt0_A m c t h0]
  dsimp only
  frame_open
  simp (disch := decide) only [↓ View.readCov_skip, ↓ View.readCov_cons_toLoadRect, ↓ View.readCov_fill]
  frame_out
  generalize (iblk m c 0 t : S2x4.Idx → EReal) = x0
  generalize (iblk m c 1 t : S1x256x1536.Idx → EReal) = x1
  generalize (iblk m c 3 t : S256x256.Idx → EReal) = x3
  generalize (iblk m c 4 t : S256x256.Idx → EReal) = x4
  generalize (iblk m c 7 t : S2x4x256x256.Idx → EReal) = x7
  generalize (iblk m c 8 t : S2x256x256.Idx → EReal) = x8
  generalize (iblk m c 9 t : S2x256x256.Idx → EReal) = x9
  match h with
  | ⟨0, _⟩ | ⟨1, _⟩ | ⟨2, _⟩ | ⟨3, _⟩ =>
    unfold col
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

/-- What a later point of a run writes of the forward result. -/
theorem forward_B (c : Dev nD) (t : Fin cfg0.N) (h0 : ¬ t.val % 33 = 0) (h : Fin 4) (i : Fin 256) (e : Fin 64) :
    (outsAt0 m c t.val t.isLt).1 (ix3 0 i (col h e))
      = tileOut (iblk m c 1 t) (iblk m c 3 t) (iblk m c 4 t) (iblk m c 7 t) (iblk m c 8 t) (outsAt0 m c (t.val - 1) (Nat.lt_of_le_of_lt (Nat.sub_le _ _) t.isLt)).2.2 0 h i e := by
  rw [outsAt0_B m c t h0]
  dsimp only
  frame_open
  simp (disch := decide) only [↓ View.readCov_skip, ↓ View.readCov_cons_toLoadRect, ↓ View.readCov_fill]
  frame_out
  simp only [read_unread_whole]
  generalize (outsAt0 m c (t.val - 1) _).2.2 = X
  generalize (iblk m c 0 t : S2x4.Idx → EReal) = x0
  generalize (iblk m c 1 t : S1x256x1536.Idx → EReal) = x1
  generalize (iblk m c 3 t : S256x256.Idx → EReal) = x3
  generalize (iblk m c 4 t : S256x256.Idx → EReal) = x4
  generalize (iblk m c 7 t : S2x4x256x256.Idx → EReal) = x7
  generalize (iblk m c 8 t : S2x256x256.Idx → EReal) = x8
  generalize (iblk m c 9 t : S2x256x256.Idx → EReal) = x9
  match h with
  | ⟨0, _⟩ | ⟨1, _⟩ | ⟨2, _⟩ | ⟨3, _⟩ =>
    unfold col
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    simp only [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

/-- What the first point of a run writes of the backward result. -/
theorem backward_A (c : Dev nD) (t : Fin cfg0.N) (h0 : t.val % 33 = 0) (h : Fin 4) (i : Fin 256) (e : Fin 64) :
    (outsAt0 m c t.val t.isLt).2.1 (ix3 0 i (col h e))
      = tileOut (iblk m c 2 t) (iblk m c 5 t) (iblk m c 6 t) (iblk m c 7 t) (iblk m c 8 t) (fun _ => 0) 1 h i e := by
  rw [outsAt0_A m c t h0]
  dsimp only
  frame_open
  simp (disch := decide) only [↓ View.readCov_skip, ↓ View.readCov_cons_toLoadRect, ↓ View.readCov_fill]
  frame_out
  generalize (iblk m c 0 t : S2x4.Idx → EReal) = x0
  generalize (iblk m c 2 t : S1x256x1536.Idx → EReal) = x2
  generalize (iblk m c 5 t : S256x256.Idx → EReal) = x5
  generalize (iblk m c 6 t : S256x256.Idx → EReal) = x6
  generalize (iblk m c 7 t : S2x4x256x256.Idx → EReal) = x7
  generalize (iblk m c 8 t : S2x256x256.Idx → EReal) = x8
  generalize (iblk m c 9 t : S2x256x256.Idx → EReal) = x9
  match h with
  | ⟨0, _⟩ | ⟨1, _⟩ | ⟨2, _⟩ | ⟨3, _⟩ =>
    unfold col
    pointwise [k0_pay1, k0_pay2, k0_pay3, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

/-- What a later point of a run writes of the backward result. -/
theorem backward_B (c : Dev nD) (t : Fin cfg0.N) (h0 : ¬ t.val % 33 = 0) (h : Fin 4) (i : Fin 256) (e : Fin 64) :
    (outsAt0 m c t.val t.isLt).2.1 (ix3 0 i (col h e))
      = tileOut (iblk m c 2 t) (iblk m c 5 t) (iblk m c 6 t) (iblk m c 7 t) (iblk m c 8 t) (outsAt0 m c (t.val - 1) (Nat.lt_of_le_of_lt (Nat.sub_le _ _) t.isLt)).2.2 1 h i e := by
  rw [outsAt0_B m c t h0]
  dsimp only
  frame_open
  simp (disch := decide) only [↓ View.readCov_skip, ↓ View.readCov_cons_toLoadRect, ↓ View.readCov_fill]
  frame_out
  simp only [read_unread_whole]
  generalize (outsAt0 m c (t.val - 1) _).2.2 = X
  generalize (iblk m c 0 t : S2x4.Idx → EReal) = x0
  generalize (iblk m c 2 t : S1x256x1536.Idx → EReal) = x2
  generalize (iblk m c 5 t : S256x256.Idx → EReal) = x5
  generalize (iblk m c 6 t : S256x256.Idx → EReal) = x6
  generalize (iblk m c 7 t : S2x4x256x256.Idx → EReal) = x7
  generalize (iblk m c 8 t : S2x256x256.Idx → EReal) = x8
  generalize (iblk m c 9 t : S2x256x256.Idx → EReal) = x9
  match h with
  | ⟨0, _⟩ | ⟨1, _⟩ | ⟨2, _⟩ | ⟨3, _⟩ =>
    unfold col
    pointwise [k0_pay1, k0_pay2, k0_pay3, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp only [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

/-- What the first point of a run leaves in the state. -/
theorem state_A (c : Dev nD) (t : Fin cfg0.N) (h0 : t.val % 33 = 0) (d : Fin 2) (h : Fin 4) (a e : Fin 64) :
    (outsAt0 m c t.val t.isLt).2.2 (ix4 d h a e)
      = if d = 0 then tileState (iblk m c 1 t) (iblk m c 3 t) (iblk m c 4 t) (iblk m c 0 t) (iblk m c 9 t) (fun _ => 0) d h a e
        else tileState (iblk m c 2 t) (iblk m c 5 t) (iblk m c 6 t) (iblk m c 0 t) (iblk m c 9 t) (fun _ => 0) d h a e := by
  rw [outsAt0_A m c t h0]
  dsimp only
  frame_open
  simp (disch := decide) only [↓ View.readCov_skip, ↓ View.readCov_cons_toLoadRect, ↓ View.readCov_fill]
  frame_out
  generalize (iblk m c 0 t : S2x4.Idx → EReal) = w0
  generalize (iblk m c 1 t : S1x256x1536.Idx → EReal) = w1
  generalize (iblk m c 2 t : S1x256x1536.Idx → EReal) = w2
  generalize (iblk m c 3 t : S256x256.Idx → EReal) = w3
  generalize (iblk m c 4 t : S256x256.Idx → EReal) = w4
  generalize (iblk m c 5 t : S256x256.Idx → EReal) = w5
  generalize (iblk m c 6 t : S256x256.Idx → EReal) = w6
  generalize (iblk m c 7 t : S2x4x256x256.Idx → EReal) = w7
  generalize (iblk m c 8 t : S2x256x256.Idx → EReal) = w8
  generalize (iblk m c 9 t : S2x256x256.Idx → EReal) = w9
  refine (canon_over [_] [_, _, _, _, _, _, _, _] _ ?_).trans ?_
  · exact View.cover_of_tiled_head _ _ _ (by rfl) _
  canon_tiles x hx
  all_goals
    idx_vars x
    obtain rfl : x0 = 0 := Subsingleton.elim _ _
    obtain rfl : x1 = 0 := Subsingleton.elim _ _
    obtain rfl : a = x2 := Fin.ext (by omega)
    obtain rfl : e = x3 := Fin.ext (by omega)
    obtain ⟨dv, hdv⟩ := d
    obtain ⟨hv, hhv⟩ := h
    simp only [Fin.val_zero, add_zero, Fin.isValue, Fin.val_eq_zero] at hx0 hx1
    subst hx0 hx1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

/-- What a later point of a run leaves in the state. -/
theorem state_B (c : Dev nD) (t : Fin cfg0.N) (h0 : ¬ t.val % 33 = 0) (d : Fin 2) (h : Fin 4) (a e : Fin 64) :
    (outsAt0 m c t.val t.isLt).2.2 (ix4 d h a e)
      = if d = 0 then tileState (iblk m c 1 t) (iblk m c 3 t) (iblk m c 4 t) (iblk m c 0 t) (iblk m c 9 t) (outsAt0 m c (t.val - 1) (Nat.lt_of_le_of_lt (Nat.sub_le _ _) t.isLt)).2.2 d h a e
        else tileState (iblk m c 2 t) (iblk m c 5 t) (iblk m c 6 t) (iblk m c 0 t) (iblk m c 9 t) (outsAt0 m c (t.val - 1) (Nat.lt_of_le_of_lt (Nat.sub_le _ _) t.isLt)).2.2 d h a e := by
  rw [outsAt0_B m c t h0]
  dsimp only
  frame_open
  simp (disch := decide) only [↓ View.readCov_skip, ↓ View.readCov_cons_toLoadRect, ↓ View.readCov_fill]
  frame_out
  simp only [read_unread_whole]
  generalize (outsAt0 m c (t.val - 1) _).2.2 = X
  generalize (iblk m c 0 t : S2x4.Idx → EReal) = w0
  generalize (iblk m c 1 t : S1x256x1536.Idx → EReal) = w1
  generalize (iblk m c 2 t : S1x256x1536.Idx → EReal) = w2
  generalize (iblk m c 3 t : S256x256.Idx → EReal) = w3
  generalize (iblk m c 4 t : S256x256.Idx → EReal) = w4
  generalize (iblk m c 5 t : S256x256.Idx → EReal) = w5
  generalize (iblk m c 6 t : S256x256.Idx → EReal) = w6
  generalize (iblk m c 7 t : S2x4x256x256.Idx → EReal) = w7
  generalize (iblk m c 8 t : S2x256x256.Idx → EReal) = w8
  generalize (iblk m c 9 t : S2x256x256.Idx → EReal) = w9
  canon_tiles x hx
  all_goals
    idx_vars x
    obtain rfl : x0 = 0 := Subsingleton.elim _ _
    obtain rfl : x1 = 0 := Subsingleton.elim _ _
    obtain rfl : a = x2 := Fin.ext (by omega)
    obtain rfl : e = x3 := Fin.ext (by omega)
    obtain ⟨dv, hdv⟩ := d
    obtain ⟨hv, hhv⟩ := h
    simp only [Fin.val_zero, add_zero, Fin.isValue, Fin.val_eq_zero] at hx0 hx1
    subst hx0 hx1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
    simp [first_not e, second_not e, second_val e, third_not e, third_mid e, third_val e, fourth_not e, fourth_mid e, fourth_mid' e, fourth_val, e.isLt, dite_true, dite_false, fin2_val, Fin.val_zero, Fin.val_one, tileOut, tileState, query, key, value, col, Nat.mul_zero, Nat.mul_one, Nat.zero_add, Nat.reduceMul, zero_mul, mul_zero, Finset.sum_const_zero, add_zero, zero_add]

end Cert.RetentionValue

end
-- ==== Proof.RetentionMath.lean ====
module

public import Idealize.ShloMosaic.Lib.Pointwise
public import Idealize.ShloMosaic.Lib.IdealHost

@[expose] public section

noncomputable section

namespace Cert.RetentionMath

open Idealize.ShloMosaic

/-- The decay of a head, from its parameter. -/
def decay (x : EReal) : EReal := Ideal.exp (-(Ideal.exp x))

/-- The decay as a real number, -/
def decayR (x : EReal) : ℝ := (decay x).toReal

/-- which it is at every parameter, an infinite one included. -/
theorem decay_coe (x : EReal) : decay x = (decayR x : EReal) := by
  unfold decayR decay
  induction x using EReal.rec with
  | bot => rw [Ideal.exp_bot, neg_zero, show (0 : EReal) = ((0 : ℝ) : EReal) from rfl, Ideal.exp_coe, EReal.toReal_coe]
  | top => simp
  | coe r => rw [Ideal.exp_coe, ← EReal.coe_neg, Ideal.exp_coe, EReal.toReal_coe]

/-- The exponential of `n` times the decay's logarithm is the decay's `n`-th power. -/
theorem exp_nat_mul (x : EReal) (n : ℕ) : Ideal.exp (((n : ℝ) : EReal) * -(Ideal.exp x)) = ((decayR x ^ n : ℝ) : EReal) := by
  unfold decayR decay
  induction x using EReal.rec with
  | bot =>
    rw [Ideal.exp_bot, neg_zero, mul_zero, show (0 : EReal) = ((0 : ℝ) : EReal) from rfl, Ideal.exp_coe, EReal.toReal_coe]
    simp
  | top =>
    rcases Nat.eq_zero_or_pos n with rfl | hn
    · rw [Nat.cast_zero, show ((0 : ℝ) : EReal) = 0 from rfl, zero_mul, show (0 : EReal) = ((0 : ℝ) : EReal) from rfl, Ideal.exp_coe]
      simp
    · rw [Ideal.exp_top, EReal.neg_top, EReal.coe_mul_bot_of_pos (by exact_mod_cast hn), Ideal.exp_bot]
      simp [hn.ne']
  | coe r =>
    rw [Ideal.exp_coe, ← EReal.coe_neg, Ideal.exp_coe, ← EReal.coe_mul, Ideal.exp_coe, EReal.toReal_coe, Real.exp_nat_mul]

/-- A finite sum of reals, read as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The recurrence -/

/-- The state after `s` tokens: each token decays it and adds its key times its value. -/
def stateE (g : EReal) (K V : ℕ → Fin 64 → EReal) : ℕ → Fin 64 → Fin 64 → EReal
  | 0, _, _ => 0
  | s + 1, a, e => stateE g K V s a e * g + K s a * V s e

/-- What token `s` reads of the state it leaves. -/
def outE (g : EReal) (Q K V : ℕ → Fin 64 → EReal) (s : ℕ) (e : Fin 64) : EReal :=
  ∑ a : Fin 64, Q s a * stateE g K V (s + 1) a e

/-- The same recurrence over the reals. -/
def state (g : ℝ) (K V : ℕ → Fin 64 → ℝ) : ℕ → Fin 64 → Fin 64 → ℝ
  | 0, _, _ => 0
  | s + 1, a, e => state g K V s a e * g + K s a * V s e

/-- Of real decays, keys and values the state is real. -/
theorem stateE_coe (g : ℝ) (K V : ℕ → Fin 64 → ℝ) : ∀ (s : ℕ) (a e : Fin 64),
    stateE g (fun s a => (K s a : EReal)) (fun s a => (V s a : EReal)) s a e = (state g K V s a e : EReal)
  | 0, _, _ => by simp [stateE, state]
  | s + 1, a, e => by
    rw [stateE, state, stateE_coe g K V s a e]
    push_cast
    rfl

variable (g : ℝ) (K V : ℕ → Fin 64 → ℝ)

/-- The state `L` tokens on: the old one decayed `L` times, and each token's product decayed by those after it. -/
theorem state_add (n : ℕ) (a e : Fin 64) : ∀ L : ℕ, state g K V (n + L) a e
    = state g K V n a e * g ^ L + ∑ j ∈ Finset.range L, g ^ (L - 1 - j) * (K (n + j) a * V (n + j) e)
  | 0 => by simp
  | L + 1 => by
    rw [← Nat.add_assoc, state, state_add n a e L, Finset.sum_range_succ, Nat.add_sub_cancel, Nat.sub_self, pow_zero, one_mul, add_mul,
      Finset.sum_mul, pow_succ, mul_assoc, add_assoc]
    congr 2
    refine Finset.sum_congr rfl fun j hj => ?_
    have hj := Finset.mem_range.mp hj
    rw [show L - j = L - 1 - j + 1 by omega, pow_succ]
    ring

/-- The place of a tile's row in the order of its direction: the rows in order forward, in reverse order backward. -/
def pos (d : Fin 2) (i : Fin 256) : Fin 256 := if d = 0 then i else Fin.rev i

/-- A direction's order within a tile is its own inverse. -/
theorem pos_pos (d : Fin 2) (i : Fin 256) : pos d (pos d i) = i := by
  unfold pos
  split <;> simp

/-- A sum over the places is the sum over the rows. -/
theorem sum_pos (d : Fin 2) (f : Fin 256 → ℝ) : ∑ j, f (pos d j) = ∑ j, f j :=
  Equiv.sum_comp (⟨pos d, pos d, pos_pos d, pos_pos d⟩ : Fin 256 ≃ Fin 256) f

/-- The state a tile on. -/
theorem tile_state (d : Fin 2) (n : ℕ) (a e : Fin 64) : state g K V (n + 256) a e
    = state g K V n a e * g ^ 256
      + ∑ j : Fin 256, K (n + (pos d j).val) a * g ^ (255 - (pos d j).val) * V (n + (pos d j).val) e := by
  rw [state_add, Finset.sum_range, sum_pos d fun j => K (n + j.val) a * g ^ (255 - j.val) * V (n + j.val) e]
  congr 1
  refine Finset.sum_congr rfl fun j _ => ?_
  ring

/-- A row of a tile reads its own state as the tile's decayed products up to its place, and the decayed state before the tile. -/
theorem tile_out (Q : Fin 64 → ℝ) (d : Fin 2) (n : ℕ) (i : Fin 256) (e : Fin 64) :
    ∑ a : Fin 64, Q a * state g K V (n + (pos d i).val + 1) a e
    = (∑ j : Fin 256, (∑ a : Fin 64, Q a * K (n + (pos d j).val) a)
          * (if (pos d j).val ≤ (pos d i).val then g ^ ((pos d i).val - (pos d j).val) else 0) * V (n + (pos d j).val) e)
      + ∑ a : Fin 64, Q a * g ^ ((pos d i).val + 1) * state g K V n a e := by
  rw [sum_pos d fun j => (∑ a : Fin 64, Q a * K (n + j.val) a)
          * (if j.val ≤ (pos d i).val then g ^ ((pos d i).val - j.val) else 0) * V (n + j.val) e]
  generalize pos d i = p
  have hr : Finset.range (p.val + 1) = (Finset.range 256).filter (· ≤ p.val) := by
    ext j; simp only [Finset.mem_range, Finset.mem_filter]; omega
  have hs : ∀ a, state g K V (n + p.val + 1) a e = state g K V n a e * g ^ (p.val + 1)
      + ∑ j : Fin 256, (if j.val ≤ p.val then g ^ (p.val - j.val) else 0) * (K (n + j.val) a * V (n + j.val) e) := fun a => by
    rw [Nat.add_assoc, state_add, hr, Finset.sum_filter, Finset.sum_range]
    congr 1
    refine Finset.sum_congr rfl fun j _ => ?_
    split <;> simp
  simp only [hs, mul_add, Finset.sum_add_distrib, Finset.mul_sum, Finset.sum_mul]
  rw [add_comm, Finset.sum_comm]
  congr 1
  · refine Finset.sum_congr rfl fun j _ => Finset.sum_congr rfl fun a _ => ?_
    ring
  · refine Finset.sum_congr rfl fun a _ => ?_
    ring

/-! ## The layer's data -/

/-- The angle of latent token `n` at pair `a`: its row's or its column's number times the pair's frequency. -/
def angle (n a : ℕ) : EReal :=
  if a < 16 then
    FloatOps.sitofp (F := Ideal) .f32 (BitVec.ofNat 32 (n / 64)) * Ideal.pow (Ideal.ofBits .f32 1176256512#32)
      (Ideal.div (-FloatOps.sitofp (F := Ideal) .f32 (BitVec.ofNat 32 a)) (Ideal.ofBits .f32 1098907648#32))
  else
    FloatOps.sitofp (F := Ideal) .f32 (BitVec.ofNat 32 (n % 64)) * Ideal.pow (Ideal.ofBits .f32 1176256512#32)
      (Ideal.div (-FloatOps.sitofp (F := Ideal) .f32 (BitVec.ofNat 32 (a - 16))) (Ideal.ofBits .f32 1098907648#32))

/-- A token's head, rotated: the context's as it is, a latent's by its angles. -/
def rot (x : Fin 64 → EReal) (n : ℕ) (a : Fin 64) : EReal :=
  if n < 256 then x a
  else if h : a.val < 32 then
    x a * Ideal.cos (angle (n - 256) a.val) + x ⟨a.val + 32, by omega⟩ * -Ideal.sin (angle (n - 256) a.val)
  else x a * Ideal.cos (angle (n - 256) (a.val - 32)) + x ⟨a.val - 32, by omega⟩ * Ideal.sin (angle (n - 256) (a.val - 32))

/-- The base of the rotary frequencies is ten thousand. -/
theorem base_real : Ideal.ofBits .f32 1176256512#32 = ((10000 : ℝ) : EReal) := by
  simp [Ideal.ofBits, Ideal.ieee, -EReal.coe_mul]; norm_num

/-- The number of frequencies is sixteen. -/
theorem sixteen_real : Ideal.ofBits .f32 1098907648#32 = ((16 : ℝ) : EReal) := by
  simp [Ideal.ofBits, Ideal.ieee, -EReal.coe_mul]; norm_num

/-- The scale of the keys is one eighth. -/
theorem eighth_real : Ideal.ofBits .f32 1040187392#32 = ((1 / 8 : ℝ) : EReal) := by
  simp [Ideal.ofBits, Ideal.ieee, -EReal.coe_mul]; norm_num

/-- A real number times a real power is real. -/
theorem freq_real (x y : ℝ) : ∃ r : ℝ, (x : EReal) * Ideal.pow (Ideal.ofBits .f32 1176256512#32)
    (Ideal.div (-(y : EReal)) (Ideal.ofBits .f32 1098907648#32)) = (r : EReal) := by
  rw [base_real, sixteen_real, Ideal.div, if_neg (by exact_mod_cast (by norm_num : (16 : ℝ) ≠ 0)), ← EReal.coe_neg, ← EReal.coe_inv,
    ← EReal.coe_mul]
  exact ⟨_, (EReal.coe_mul _ _).symm⟩

/-- The angles are real. -/
theorem angle_real (n a : ℕ) : ∃ r : ℝ, angle n a = (r : EReal) := by
  unfold angle
  split
  · exact freq_real _ _
  · exact freq_real _ _

/-- A real head rotated is real. -/
theorem rot_real (x : Fin 64 → ℝ) (n : ℕ) (a : Fin 64) : ∃ r : ℝ, rot (fun a => (x a : EReal)) n a = (r : EReal) := by
  unfold rot
  split
  · exact ⟨_, rfl⟩
  split
  · obtain ⟨r, hr⟩ := angle_real (n - 256) a.val
    rw [hr]
    exact ⟨x a * Real.cos r + x ⟨a.val + 32, by omega⟩ * -Real.sin r, by push_cast; rfl⟩
  · obtain ⟨r, hr⟩ := angle_real (n - 256) (a.val - 32)
    rw [hr]
    exact ⟨x a * Real.cos r + x ⟨a.val - 32, by omega⟩ * Real.sin r, by push_cast; rfl⟩

/-- The whole numbers up to a tile's length, and the words of them. -/
theorem word_real (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-! ## The scan's order -/

/-- The token that a direction's scan takes at step `s`: in order forward; the context in reverse, then the latents in reverse, backward. -/
def tok (d : Fin 2) (s : ℕ) : Fin 8448 :=
  ⟨(if d = 0 then s else if s < 256 then 255 - s else 8703 - s) % 8448, Nat.mod_lt _ (by decide)⟩

variable (pr : Fin 4 → Fin 8448 → Fin 1536 → EReal)

/-- The queries, keys and values of batch `b`, token `n`, head `h`: rotated, and the keys scaled. -/
def qv (b : Fin 4) (h : Fin 4) (n : Fin 8448) : Fin 64 → EReal :=
  rot (fun a => pr b n ⟨64 * h.val + a.val, by omega⟩) n.val
/-- The rotated and scaled key of a token. -/
def kv (b : Fin 4) (h : Fin 4) (n : Fin 8448) (a : Fin 64) : EReal :=
  rot (fun a => pr b n ⟨256 + (64 * h.val + a.val), by omega⟩) n.val a * Ideal.ofBits .f32 1040187392#32
/-- The value of a token. -/
def vv (b : Fin 4) (h : Fin 4) (n : Fin 8448) (a : Fin 64) : EReal := pr b n ⟨512 + (64 * h.val + a.val), by omega⟩

/-- The three column groups are real. -/
def Real3 : Prop := ∀ b n (j : Fin 1536), j.val < 768 → ∃ r : ℝ, pr b n j = (r : EReal)

variable {pr} (hr : Real3 pr)

include hr in
/-- A rotated query of finite columns is finite. -/
theorem qv_real (b h n a) : ∃ r : ℝ, qv pr b h n a = (r : EReal) := by
  choose f hf using fun a : Fin 64 => hr b n ⟨64 * h.val + a.val, by omega⟩ (by show 64 * h.val + a.val < 768; omega)
  unfold qv
  simp only [hf]
  exact rot_real _ _ _

include hr in
/-- A rotated key of finite columns is finite. -/
theorem kv_real (b h n a) : ∃ r : ℝ, kv pr b h n a = (r : EReal) := by
  choose f hf using fun a : Fin 64 => hr b n ⟨256 + (64 * h.val + a.val), by omega⟩ (by show 256 + (64 * h.val + a.val) < 768; omega)
  unfold kv
  simp only [hf]
  obtain ⟨r, e⟩ := rot_real f n.val a
  rw [e, eighth_real]
  exact ⟨_, (EReal.coe_mul _ _).symm⟩

include hr in
/-- A value of finite columns is finite. -/
theorem vv_real (b h n a) : ∃ r : ℝ, vv pr b h n a = (r : EReal) :=
  hr b n ⟨512 + (64 * h.val + a.val), by omega⟩ (by show 512 + (64 * h.val + a.val) < 768; omega)

/-- A direction's result for batch `b`, head `h`, at step `s` of its scan. -/
def scanOut (pr : Fin 4 → Fin 8448 → Fin 1536 → EReal) (rd : Fin 2 → Fin 4 → EReal) (d : Fin 2) (b h : Fin 4) (s : ℕ) (e : Fin 64) : EReal :=
  outE (decay (rd d h)) (fun s => qv pr b h (tok d s)) (fun s => kv pr b h (tok d s)) (fun s => vv pr b h (tok d s)) s e

/-- The state of that scan before step `s`. -/
def scanState (pr : Fin 4 → Fin 8448 → Fin 1536 → EReal) (rd : Fin 2 → Fin 4 → EReal) (d : Fin 2) (b h : Fin 4) (s : ℕ) (a e : Fin 64) : EReal :=
  stateE (decay (rd d h)) (fun s => kv pr b h (tok d s)) (fun s => vv pr b h (tok d s)) s a e

/-- What the tables hold of a decay, row by row of a tile. -/
def decTable (x : EReal) (d : Fin 2) (i j : Fin 256) : EReal :=
  if (pos d j).val ≤ (pos d i).val then ((decayR x ^ ((pos d i).val - (pos d j).val) : ℝ) : EReal) else 0
/-- The decay from the start of a tile to one of its tokens. -/
def queryTable (x : EReal) (d : Fin 2) (i : Fin 256) : EReal := ((decayR x ^ ((pos d i).val + 1) : ℝ) : EReal)
/-- The decay from a token of a tile to the end of the tile. -/
def keyTable (x : EReal) (d : Fin 2) (i : Fin 256) : EReal := ((decayR x ^ (255 - (pos d i).val) : ℝ) : EReal)

include hr in
/-- A tile's update of the state, in the extended reals. -/
theorem scan_tile (rd : Fin 2 → Fin 4 → EReal) (d : Fin 2) (b h : Fin 4) (n : ℕ) (a e : Fin 64) :
    scanState pr rd d b h (n + 256) a e
      = scanState pr rd d b h n a e * ((decayR (rd d h) ^ 256 : ℝ) : EReal)
        + ∑ j : Fin 256, kv pr b h (tok d (n + (pos d j).val)) a * keyTable (rd d h) d j * vv pr b h (tok d (n + (pos d j).val)) e := by
  choose k hk using kv_real hr b h
  choose v hv using vv_real hr b h
  have hs : ∀ s a e, scanState pr rd d b h s a e
      = (state (decayR (rd d h)) (fun s a => k (tok d s) a) (fun s a => v (tok d s) a) s a e : EReal) := fun s a e => by
    rw [← stateE_coe, ← decay_coe]
    unfold scanState
    congr 1
    · funext s a; exact hk _ _
    · funext s a; exact hv _ _
  rw [hs, hs, tile_state _ _ _ d, EReal.coe_add, EReal.coe_mul, coe_sum]
  congr 1
  refine Finset.sum_congr rfl fun j _ => ?_
  rw [hk, hv, keyTable, EReal.coe_mul, EReal.coe_mul]

include hr in
/-- A tile's output, in the extended reals. -/
theorem scan_out (rd : Fin 2 → Fin 4 → EReal) (d : Fin 2) (b h : Fin 4) (n : ℕ) (i : Fin 256) (e : Fin 64) :
    scanOut pr rd d b h (n + (pos d i).val) e
      = (∑ j : Fin 256, (∑ a : Fin 64, qv pr b h (tok d (n + (pos d i).val)) a * kv pr b h (tok d (n + (pos d j).val)) a)
            * decTable (rd d h) d i j * vv pr b h (tok d (n + (pos d j).val)) e)
        + ∑ a : Fin 64, qv pr b h (tok d (n + (pos d i).val)) a * queryTable (rd d h) d i * scanState pr rd d b h n a e := by
  choose q hq using qv_real hr b h
  choose k hk using kv_real hr b h
  choose v hv using vv_real hr b h
  have hs : ∀ s a e, scanState pr rd d b h s a e
      = (state (decayR (rd d h)) (fun s a => k (tok d s) a) (fun s a => v (tok d s) a) s a e : EReal) := fun s a e => by
    rw [← stateE_coe, ← decay_coe]
    unfold scanState
    congr 1
    · funext s a; exact hk _ _
    · funext s a; exact hv _ _
  have ho : scanOut pr rd d b h (n + (pos d i).val) e
      = ∑ a : Fin 64, qv pr b h (tok d (n + (pos d i).val)) a * scanState pr rd d b h (n + (pos d i).val + 1) a e := rfl
  rw [ho]
  simp only [hs, hq, hk, hv, queryTable, ← EReal.coe_mul, ← coe_sum]
  rw [tile_out _ _ _ (fun a => q (tok d (n + (pos d i).val)) a) d n i e, EReal.coe_add, coe_sum]
  congr 1
  refine Finset.sum_congr rfl fun j _ => ?_
  unfold decTable
  split
  · rw [← EReal.coe_mul, ← EReal.coe_mul]
  · simp

end Cert.RetentionMath

end
-- ==== Proof.RetentionTables.lean ====
module

public import proofs.«01_k».proof.Proof.Gen.RetentionIdeal.Value
public import proofs.«01_k».proof.Proof.RetentionMath
public import Idealize.ShloMosaic.Lib.Pointwise
public import Idealize.ShloMosaic.Lib.StableHlo.RunRead
public import Idealize.ShloMosaic.Lib.Pipeline.ValueKit

@[expose] public section

set_option maxRecDepth 16384

noncomputable section

namespace Cert.RetentionValue

open Cert.RetentionIdeal Cert.RetentionIdeal.Gen Cert.RetentionMath Idealize.ShloMosaic Idealize.ShloMosaic.TcCoe Idealize.SL.Sem

variable (m : (ℓ : Loc nD τ sig) → Buf (Elt Ideal) ℓ)

/-- The decay parameters, and the projected columns, as the launch memory holds them. -/
def rd (c : Dev nD) (d : Fin 2) (h : Fin 4) : EReal := (m (c.tc.loc main_arg1) : S2x4.Idx → EReal) (ix2 d h)
/-- The projected columns of a token, as the kernel receives them. -/
def pr (c : Dev nD) (b : Fin 4) (n : Fin 8448) (j : Fin 1536) : EReal := (m (c.tc.loc main_arg0) : S4x8448x1536.Idx → EReal) (ix3 b n j)

/-- The exponential of the table's logarithms, where the row is at or after the column, -/
theorem row_after (x : EReal) (p q : ℕ) :
    Ideal.exp (if (0 : EReal) ≤ ((p : ℝ) : EReal) - ((q : ℝ) : EReal) then (((p : ℝ) : EReal) - ((q : ℝ) : EReal)) * -(Ideal.exp x)
      else Ideal.ofBits .f32 4286578688#32) = if q ≤ p then ((decayR x ^ (p - q) : ℝ) : EReal) else 0 := by
  have key : ((0 : EReal) ≤ (((p : ℝ) - (q : ℝ) : ℝ) : EReal)) ↔ q ≤ p := by rw [EReal.coe_nonneg, sub_nonneg, Nat.cast_le]
  rw [← EReal.coe_sub]
  by_cases h : q ≤ p
  · rw [if_pos (key.mpr h), if_pos h, ← Nat.cast_sub h, exp_nat_mul]
  · rw [if_neg (mt key.mp h), if_neg h, show Ideal.ofBits .f32 4286578688#32 = (⊥ : EReal) from by simp [Ideal.ofBits, Ideal.ieee], Ideal.exp_bot]

/-- and where it is at or before. -/
theorem row_before (x : EReal) (p q : ℕ) :
    Ideal.exp (if ((p : ℝ) : EReal) - ((q : ℝ) : EReal) ≤ 0 then -(((p : ℝ) : EReal) - ((q : ℝ) : EReal)) * -(Ideal.exp x)
      else Ideal.ofBits .f32 4286578688#32) = if p ≤ q then ((decayR x ^ (q - p) : ℝ) : EReal) else 0 := by
  have key : ((((p : ℝ) - (q : ℝ) : ℝ) : EReal) ≤ 0) ↔ p ≤ q := by
    rw [← EReal.coe_zero, EReal.coe_le_coe_iff, sub_nonpos, Nat.cast_le]
  rw [← EReal.coe_sub]
  by_cases h : p ≤ q
  · rw [if_pos (key.mpr h), if_pos h, ← EReal.coe_neg, neg_sub, ← Nat.cast_sub h, exp_nat_mul]
  · rw [if_neg (mt key.mp h), if_neg h, show Ideal.ofBits .f32 4286578688#32 = (⊥ : EReal) from by simp [Ideal.ofBits, Ideal.ieee], Ideal.exp_bot]

/-- A tile has 256 tokens. -/
theorem tile_real : Ideal.ofBits .f32 1132462080#32 = (((256 : ℕ) : ℝ) : EReal) := by
  simp [Ideal.ofBits, Ideal.ieee, -EReal.coe_mul]; norm_num

/-- The last place of a tile is 255. -/
theorem last_real : Ideal.ofBits .f32 1132396544#32 = (((255 : ℕ) : ℝ) : EReal) := by
  simp [Ideal.ofBits, Ideal.ieee, -EReal.coe_mul]; norm_num

/-- A column of a head belongs to that head. -/
theorem head_of (h : Fin 4) (a : Fin 64) (p : (64 * h.val + a.val) / 64 < 4) : (⟨(64 * h.val + a.val) / 64, p⟩ : Fin 4) = h :=
  Fin.ext (by show (64 * h.val + a.val) / 64 = h.val; omega)

/-- The state's decay over a tile. -/
theorem cdec_eq (c : Dev nD) (d : Fin 2) (h : Fin 4) :
    (V m c main_v87 : S2x4.Idx → EReal) (ix2 d h) = ((decayR (rd m c d h) ^ 256 : ℝ) : EReal) := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  rw [tile_real, exp_nat_mul]
  rfl

/-- The decays between a tile's rows. -/
theorem dec_eq (c : Dev nD) (d : Fin 2) (h : Fin 4) (i j : Fin 256) :
    (V m c main_v32 : S2x4x256x256.Idx → EReal) (ix4 d h i j) = decTable (rd m c d h) d i j := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  rw [word_real i.val (by omega), word_real j.val (by omega), row_after, row_before]
  unfold decTable
  match d with
  | 0 => exact dif_pos (by decide)
  | 1 =>
    refine (dif_neg (by decide)).trans ?_
    simp only [pos, Fin.isValue, one_ne_zero, if_false, Fin.val_rev]
    by_cases h' : i.val ≤ j.val
    · rw [if_pos h', if_pos (by omega), show 256 - (i.val + 1) - (256 - (j.val + 1)) = j.val - i.val by omega]
      rfl
    · rw [if_neg h', if_neg (by omega)]

/-- The decays from the state before the tile to its rows. -/
theorem qdec_eq (c : Dev nD) (d : Fin 2) (h : Fin 4) (i : Fin 256) (a : Fin 64) :
    (V m c main_v59 : S2x256x256.Idx → EReal) (ix3 d i ⟨64 * h.val + a.val, by omega⟩) = queryTable (rd m c d h) d i := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  simp only [head_of]
  rw [word_real i.val (by omega), tile_real, ← EReal.coe_one, ← EReal.coe_add, ← EReal.coe_sub,
    show ((i.val : ℝ) + 1) = ((i.val + 1 : ℕ) : ℝ) by push_cast; rfl, ← Nat.cast_sub (by omega : i.val ≤ 256), exp_nat_mul, exp_nat_mul]
  unfold queryTable
  match d with
  | 0 => exact dif_pos (by decide)
  | 1 =>
    refine (dif_neg (by decide)).trans ?_
    simp only [pos, Fin.isValue, one_ne_zero, if_false, Fin.val_rev]
    rw [show 256 - (i.val + 1) + 1 = 256 - i.val by omega]
    rfl

/-- The decays from a tile's rows to the state after it. -/
theorem kdec_eq (c : Dev nD) (d : Fin 2) (h : Fin 4) (i : Fin 256) (a : Fin 64) :
    (V m c main_v84 : S2x256x256.Idx → EReal) (ix3 d i ⟨64 * h.val + a.val, by omega⟩) = keyTable (rd m c d h) d i := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  simp only [head_of]
  rw [word_real i.val (by omega), last_real, ← EReal.coe_sub, ← Nat.cast_sub (by omega : i.val ≤ 255), exp_nat_mul, exp_nat_mul]
  unfold keyTable
  match d with
  | 0 => exact dif_pos (by decide)
  | 1 =>
    refine (dif_neg (by decide)).trans ?_
    simp only [pos, Fin.isValue, one_ne_zero, if_false, Fin.val_rev]
    rw [show 255 - (256 - (i.val + 1)) = i.val by omega]
    rfl

/-- The cosines of the rotation. -/
theorem cos_eq (c : Dev nD) (n : Fin 8448) (h : Fin 4) (a : Fin 64) :
    (V m c main_v123 : S8448x256.Idx → EReal) (ix2 n ⟨64 * h.val + a.val, by omega⟩)
      = if n.val < 256 then 1 else Ideal.cos (angle (n.val - 256) (if a.val < 32 then a.val else a.val - 32)) := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  unfold angle
  split_ifs <;> first | rfl | omega

/-- The sines of the rotation, negated over the first half of a head. -/
theorem sin_eq (c : Dev nD) (n : Fin 8448) (h : Fin 4) (a : Fin 64) :
    (V m c main_v126 : S8448x256.Idx → EReal) (ix2 n ⟨64 * h.val + a.val, by omega⟩)
      = if n.val < 256 then 0 else if a.val < 32 then -Ideal.sin (angle (n.val - 256) a.val) else Ideal.sin (angle (n.val - 256) (a.val - 32)) := by
  unfold V
  simp only [hostOps0, hostOps0_1, hostOps0_2, hostOps0_3, hostOps0_4, List.flatten_cons, List.flatten_nil, List.append_nil, List.cons_append, List.nil_append]
  repeat (after_reads_simp; (try simp only [StableHlo.TRef.toBuf, StableHlo.TRef.ofBuf, cast_eq, id_eq]); (try pointwise []))
  unfold angle
  split_ifs <;> first | rfl | omega

end Cert.RetentionValue

end
-- ==== Proof.RetentionBlocks.lean ====
module

public import proofs.«01_k».proof.Proof.RetentionPoint
public import proofs.«01_k».proof.Proof.RetentionTables

@[expose] public section

set_option maxRecDepth 16384

noncomputable section

namespace Cert.RetentionValue

open Cert.RetentionIdeal Cert.RetentionIdeal.Gen Cert.RetentionMath Idealize.ShloMosaic Idealize.ShloMosaic.TcCoe Idealize.SL.Sem

variable (m : (ℓ : Loc nD τ sig) → Buf (Elt Ideal) ℓ)

/-- The tile of tokens the backward scan takes at step `n`. -/
def backTile (n : ℕ) : ℕ := if n = 0 then 0 else 33 - n

/-- The blocks each window stages at a point. -/
theorem index_of : ∀ t : Fin grid0.N, win0_0.index t = ![0, 0]
    ∧ win0_1.index t = ![t.val / 33, t.val % 33, 0] ∧ win0_2.index t = ![t.val / 33, backTile (t.val % 33), 0]
    ∧ win0_3.index t = ![t.val % 33, 0] ∧ win0_4.index t = ![t.val % 33, 0]
    ∧ win0_5.index t = ![backTile (t.val % 33), 0] ∧ win0_6.index t = ![backTile (t.val % 33), 0]
    ∧ win0_7.index t = ![0, 0, 0, 0] ∧ win0_8.index t = ![0, 0, 0] ∧ win0_9.index t = ![0, 0, 0]
    ∧ win0_10.index t = ![t.val / 33, t.val % 33, 0] ∧ win0_11.index t = ![t.val / 33, backTile (t.val % 33), 0] := by
  decide +kernel

/-- The batch of a grid point. -/
def batch (t : Fin cfg0.N) : Fin 4 := ⟨t.val / 33, by have : t.val < 132 := t.isLt; omega⟩

/-- The token in row `i` of the tile that direction `d` takes at a grid point. -/
def tileTok (d : Fin 2) (t : Fin cfg0.N) (i : Fin 256) : Fin 8448 := tok d (256 * (t.val % 33) + (pos d i).val)

/-- The forward tile of a step is read in the given order. -/
theorem tileTok_forward (t : Fin cfg0.N) (i : Fin 256) : (tileTok 0 t i).val = t.val % 33 * 256 + i.val := by
  have : t.val % 33 < 33 := Nat.mod_lt _ (by decide)
  show (if (0 : Fin 2) = 0 then 256 * (t.val % 33) + (if (0 : Fin 2) = 0 then i else Fin.rev i).val else _) % 8448 = _
  rw [if_pos rfl, if_pos rfl]
  omega

/-- The backward tile of a step counts down. -/
theorem tileTok_backward (t : Fin cfg0.N) (i : Fin 256) : (tileTok 1 t i).val = backTile (t.val % 33) * 256 + i.val := by
  have h33 : t.val % 33 < 33 := Nat.mod_lt _ (by decide)
  have hp : (pos 1 i).val = 255 - i.val := by
    show (if (1 : Fin 2) = 0 then i else Fin.rev i).val = _
    rw [if_neg (by decide), Fin.val_rev]; omega
  show (if (1 : Fin 2) = 0 then _ else if 256 * (t.val % 33) + (pos 1 i).val < 256 then 255 - (256 * (t.val % 33) + (pos 1 i).val)
    else 8703 - (256 * (t.val % 33) + (pos 1 i).val)) % 8448 = _
  rw [if_neg (by decide), hp]
  unfold backTile
  split_ifs <;> omega

section blocks
variable (c : Dev nD) (t : Fin cfg0.N)

/-- What each window stages, at an index. -/
theorem block_forward (i : Fin 256) (j : Fin 1536) : iblk m c 1 t (ix3 0 i j) = pr m c (batch t) (tileTok 0 t i) j := by
  obtain ⟨e0, e1, e2, e3, e4, e5, e6, e7, e8, e9, e10, e11⟩ := index_of t
  have h := tileTok_forward t i
  unfold pr batch
  rw [← V_main_arg0 m c]
  blk_ext [iblk, e1, h]

/-- The backward token block is the batch's tokens of the backward tile. -/
theorem block_backward (i : Fin 256) (j : Fin 1536) : iblk m c 2 t (ix3 0 i j) = pr m c (batch t) (tileTok 1 t i) j := by
  obtain ⟨e0, e1, e2, e3, e4, e5, e6, e7, e8, e9, e10, e11⟩ := index_of t
  have h := tileTok_backward t i
  unfold pr batch
  rw [← V_main_arg0 m c]
  blk_ext [iblk, e2, h]

/-- The forward cosine block is the table at the forward tile. -/
theorem block_cos_forward (i j : Fin 256) : iblk m c 3 t (ix2 i j) = (V m c main_v123 : S8448x256.Idx → EReal) (ix2 (tileTok 0 t i) j) := by
  obtain ⟨e0, e1, e2, e3, e4, e5, e6, e7, e8, e9, e10, e11⟩ := index_of t
  have h := tileTok_forward t i
  blk_ext [iblk, e3, h]

/-- The forward sine block is the table at the forward tile. -/
theorem block_sin_forward (i j : Fin 256) : iblk m c 4 t (ix2 i j) = (V m c main_v126 : S8448x256.Idx → EReal) (ix2 (tileTok 0 t i) j) := by
  obtain ⟨e0, e1, e2, e3, e4, e5, e6, e7, e8, e9, e10, e11⟩ := index_of t
  have h := tileTok_forward t i
  blk_ext [iblk, e4, h]

/-- The backward cosine block is the table at the backward tile. -/
theorem block_cos_backward (i j : Fin 256) : iblk m c 5 t (ix2 i j) = (V m c main_v123 : S8448x256.Idx → EReal) (ix2 (tileTok 1 t i) j) := by
  obtain ⟨e0, e1, e2, e3, e4, e5, e6, e7, e8, e9, e10, e11⟩ := index_of t
  have h := tileTok_backward t i
  blk_ext [iblk, e5, h]

/-- The backward sine block is the table at the backward tile. -/
theorem block_sin_backward (i j : Fin 256) : iblk m c 6 t (ix2 i j) = (V m c main_v126 : S8448x256.Idx → EReal) (ix2 (tileTok 1 t i) j) := by
  obtain ⟨e0, e1, e2, e3, e4, e5, e6, e7, e8, e9, e10, e11⟩ := index_of t
  have h := tileTok_backward t i
  blk_ext [iblk, e6, h]

/-- The tile decays are brought in whole. -/
theorem block_carry (d : Fin 2) (h : Fin 4) : iblk m c 0 t (ix2 d h) = (V m c main_v87 : S2x4.Idx → EReal) (ix2 d h) := by
  obtain ⟨e0, e1, e2, e3, e4, e5, e6, e7, e8, e9, e10, e11⟩ := index_of t
  blk_ext [iblk, e0]

/-- The decay matrices are brought in whole. -/
theorem block_decay (d : Fin 2) (h : Fin 4) (i j : Fin 256) : iblk m c 7 t (ix4 d h i j) = (V m c main_v32 : S2x4x256x256.Idx → EReal) (ix4 d h i j) := by
  obtain ⟨e0, e1, e2, e3, e4, e5, e6, e7, e8, e9, e10, e11⟩ := index_of t
  blk_ext [iblk, e7]

/-- The query decays are brought in whole. -/
theorem block_query (d : Fin 2) (i j : Fin 256) : iblk m c 8 t (ix3 d i j) = (V m c main_v59 : S2x256x256.Idx → EReal) (ix3 d i j) := by
  obtain ⟨e0, e1, e2, e3, e4, e5, e6, e7, e8, e9, e10, e11⟩ := index_of t
  blk_ext [iblk, e8]

/-- The key decays are brought in whole. -/
theorem block_key (d : Fin 2) (i j : Fin 256) : iblk m c 9 t (ix3 d i j) = (V m c main_v84 : S2x256x256.Idx → EReal) (ix3 d i j) := by
  obtain ⟨e0, e1, e2, e3, e4, e5, e6, e7, e8, e9, e10, e11⟩ := index_of t
  blk_ext [iblk, e9]

end blocks

end Cert.RetentionValue
end
-- ==== Proof.RetentionValue.lean ====
module

public import proofs.«01_k».proof.Proof.RetentionBlocks

@[expose] public section

set_option maxRecDepth 16384

noncomputable section

namespace Cert.RetentionValue

open Cert.RetentionIdeal Cert.RetentionIdeal.Gen Cert.RetentionMath Idealize.ShloMosaic Idealize.ShloMosaic.TcCoe Idealize.SL.Sem

/-- Column `a` of a head with its halves swapped. -/
def other (a : Fin 64) : Fin 64 := ⟨if a.val < 32 then a.val + 32 else a.val - 32, by split <;> omega⟩

/-- The last 512 columns are the queries' and keys' columns, each head's halves swapped. -/
def Swapped (pr : Fin 4 → Fin 8448 → Fin 1536 → EReal) : Prop := ∀ b n (h : Fin 4) (a : Fin 64),
  pr b n ⟨1024 + (64 * h.val + a.val), by omega⟩ = pr b n ⟨64 * h.val + (other a).val, by omega⟩
  ∧ pr b n ⟨1280 + (64 * h.val + a.val), by omega⟩ = pr b n ⟨256 + (64 * h.val + (other a).val), by omega⟩

/-- Turning by the tables and the swapped columns is the rotation. -/
theorem rot_tables (x : Fin 64 → EReal) (n : ℕ) (a : Fin 64) :
    x a * (if n < 256 then 1 else Ideal.cos (angle (n - 256) (if a.val < 32 then a.val else a.val - 32)))
      + x (other a) * (if n < 256 then 0 else if a.val < 32 then -Ideal.sin (angle (n - 256) a.val) else Ideal.sin (angle (n - 256) (a.val - 32)))
      = rot x n a := by
  unfold rot
  by_cases hn : n < 256
  · rw [if_pos hn, if_pos hn, if_pos hn, mul_one, mul_zero, add_zero]
  · rw [if_neg hn, if_neg hn, if_neg hn]
    by_cases ha : a.val < 32
    · rw [if_pos ha, if_pos ha, dif_pos ha, show other a = ⟨a.val + 32, by omega⟩ from Fin.ext (if_pos ha)]
    · rw [if_neg ha, if_neg ha, dif_neg ha, show other a = ⟨a.val - 32, by omega⟩ from Fin.ext (if_neg ha)]

variable (m : (ℓ : Loc nD τ sig) → Buf (Elt Ideal) ℓ) (c : Dev nD)

section tile
variable {m c} (hsw : Swapped (pr m c)) (b : Fin 4) (T : Fin 256 → Fin 8448) (P : S1x256x1536.Idx → EReal) (C Sn : S256x256.Idx → EReal)
  (hP : ∀ i j, P (ix3 0 i j) = pr m c b (T i) j)
  (hC : ∀ i j, C (ix2 i j) = (V m c main_v123 : S8448x256.Idx → EReal) (ix2 (T i) j))
  (hS : ∀ i j, Sn (ix2 i j) = (V m c main_v126 : S8448x256.Idx → EReal) (ix2 (T i) j))

include hsw hP hC hS

/-- A tile's queries, keys and values are the ones the recurrence reads at the tile's tokens. -/
theorem query_eq (i : Fin 256) (h : Fin 4) (a : Fin 64) : query P C Sn i (col h a) = qv (pr m c) b h (T i) a := by
  unfold query qv
  rw [← rot_tables, hP, hP, hC, hS]
  unfold col
  rw [cos_eq, sin_eq, (hsw b (T i) h a).1]

/-- The keys of a tile are the rotated and scaled keys of its tokens. -/
theorem key_eq (i : Fin 256) (h : Fin 4) (a : Fin 64) : key P C Sn i (col h a) = kv (pr m c) b h (T i) a := by
  unfold key kv
  rw [← rot_tables, hP, hP, hC, hS]
  unfold col
  rw [cos_eq, sin_eq, (hsw b (T i) h a).2]

omit hsw hC hS in
/-- The values of a tile are the values of its tokens. -/
theorem value_eq (i : Fin 256) (h : Fin 4) (a : Fin 64) : value P i (col h a) = vv (pr m c) b h (T i) a := by
  unfold value vv
  rw [hP]
  rfl

variable (hr : Real3 (pr m c)) (d : Fin 2) (n : ℕ) (hT : ∀ i, T i = tok d (n + (pos d i).val)) (X : S2x4x64x64.Idx → EReal)
  (hX : ∀ h a e, X (ix4 d h a e) = scanState (pr m c) (rd m c) d b h n a e)

include hr hT hX

/-- A tile takes the state of the recurrence 256 tokens on, -/
theorem tileState_eq (G : S2x4.Idx → EReal) (hG : ∀ h, G (ix2 d h) = ((decayR (rd m c d h) ^ 256 : ℝ) : EReal))
    (K : S2x256x256.Idx → EReal) (hK : ∀ j h a, K (ix3 d j (col h a)) = keyTable (rd m c d h) d j) (h : Fin 4) (a e : Fin 64) :
    tileState P C Sn G K X d h a e = scanState (pr m c) (rd m c) d b h (n + 256) a e := by
  rw [scan_tile hr]
  unfold tileState
  rw [hX, hG]
  simp only [query_eq hsw b T P C Sn hP hC hS, key_eq hsw b T P C Sn hP hC hS, value_eq b T P hP, hK, hT]

/-- and its outputs are the recurrence's at its tokens. -/
theorem tileOut_eq (D : S2x4x256x256.Idx → EReal) (hD : ∀ h i j, D (ix4 d h i j) = decTable (rd m c d h) d i j)
    (Q : S2x256x256.Idx → EReal) (hQ : ∀ j h a, Q (ix3 d j (col h a)) = queryTable (rd m c d h) d j) (h : Fin 4) (i : Fin 256) (e : Fin 64) :
    tileOut P C Sn D Q X d h i e = scanOut (pr m c) (rd m c) d b h (n + (pos d i).val) e := by
  rw [scan_out hr]
  unfold tileOut
  simp only [hX, query_eq hsw b T P C Sn hP hC hS, key_eq hsw b T P C Sn hP hC hS, value_eq b T P hP, hD, hQ, hT]

end tile

section run
variable {m c} (hsw : Swapped (pr m c)) (hr : Real3 (pr m c))

include hsw hr

/-- The state before a point: nothing at a batch's first point, and otherwise what the point before left. -/
theorem after_tile (t : Fin cfg0.N) (X : S2x4x64x64.Idx → EReal)
    (hX : ∀ d h a e, X (ix4 d h a e) = scanState (pr m c) (rd m c) d (batch t) h (256 * (t.val % 33)) a e) (d : Fin 2) (h : Fin 4) (a e : Fin 64) :
    (if d = 0 then tileState (iblk m c 1 t) (iblk m c 3 t) (iblk m c 4 t) (iblk m c 0 t) (iblk m c 9 t) X d h a e
      else tileState (iblk m c 2 t) (iblk m c 5 t) (iblk m c 6 t) (iblk m c 0 t) (iblk m c 9 t) X d h a e)
      = scanState (pr m c) (rd m c) d (batch t) h (256 * (t.val % 33) + 256) a e := by
  have hG : ∀ d h, iblk m c 0 t (ix2 d h) = ((decayR (rd m c d h) ^ 256 : ℝ) : EReal) := fun d h => (block_carry m c t d h).trans (cdec_eq m c d h)
  have hK : ∀ d j h a, iblk m c 9 t (ix3 d j (col h a)) = keyTable (rd m c d h) d j := fun d j h a => (block_key m c t d j _).trans (kdec_eq m c d h j a)
  split_ifs with hd
  · subst hd
    exact tileState_eq hsw (batch t) (tileTok 0 t) _ _ _ (block_forward m c t) (block_cos_forward m c t) (block_sin_forward m c t) hr 0 _ (fun _ => rfl) X (hX 0)
      _ (hG 0) _ (hK 0) h a e
  · obtain rfl : d = 1 := Fin.ext (by have : d.val ≠ 0 := fun q => hd (Fin.ext q); have := d.isLt; show d.val = 1; omega)
    exact tileState_eq hsw (batch t) (tileTok 1 t) _ _ _ (block_backward m c t) (block_cos_backward m c t) (block_sin_backward m c t) hr 1 _ (fun _ => rfl) X (hX 1)
      _ (hG 1) _ (hK 1) h a e

/-- After each point the scratch holds both directions' states, 256 tokens for each tile of the batch so far. -/
theorem state_eq (k : ℕ) (hk : k < cfg0.N) (d : Fin 2) (h : Fin 4) (a e : Fin 64) :
    (outsAt0 m c k hk).2.2 (ix4 d h a e) = scanState (pr m c) (rd m c) d (batch ⟨k, hk⟩) h (256 * (k % 33) + 256) a e := by
  induction k generalizing d h a e with
  | zero =>
    exact (state_A m c ⟨0, hk⟩ rfl d h a e).trans (after_tile hsw hr ⟨0, hk⟩ _ (fun _ _ _ _ => rfl) d h a e)
  | succ k ih =>
    by_cases h0 : (k + 1) % 33 = 0
    · refine (state_A m c ⟨k + 1, hk⟩ h0 d h a e).trans (after_tile hsw hr ⟨k + 1, hk⟩ _ (fun d h a e => ?_) d h a e)
      show (0 : EReal) = scanState (pr m c) (rd m c) d _ h (256 * ((k + 1) % 33)) a e
      rw [h0]; rfl
    · refine (state_B m c ⟨k + 1, hk⟩ h0 d h a e).trans (after_tile hsw hr ⟨k + 1, hk⟩ _ (fun d h a e => ?_) d h a e)
      refine (ih (Nat.lt_of_succ_lt hk) d h a e).trans ?_
      rw [show batch ⟨k, Nat.lt_of_succ_lt hk⟩ = batch ⟨k + 1, hk⟩ from Fin.ext (by show k / 33 = (k + 1) / 33; omega),
        show 256 * (k % 33) + 256 = 256 * ((k + 1) % 33) by omega]

/-- Both outputs at a point, given the state before it. -/
theorem forward_tile (t : Fin cfg0.N) (X : S2x4x64x64.Idx → EReal)
    (hX : ∀ d h a e, X (ix4 d h a e) = scanState (pr m c) (rd m c) d (batch t) h (256 * (t.val % 33)) a e) (h : Fin 4) (i : Fin 256) (e : Fin 64) :
    tileOut (iblk m c 1 t) (iblk m c 3 t) (iblk m c 4 t) (iblk m c 7 t) (iblk m c 8 t) X 0 h i e
      = scanOut (pr m c) (rd m c) 0 (batch t) h (256 * (t.val % 33) + (pos 0 i).val) e :=
  tileOut_eq hsw (batch t) (tileTok 0 t) _ _ _ (block_forward m c t) (block_cos_forward m c t) (block_sin_forward m c t) hr 0 _ (fun _ => rfl) X (hX 0)
    _ (fun h i j => (block_decay m c t 0 h i j).trans (dec_eq m c 0 h i j)) _ (fun j h a => (block_query m c t 0 j _).trans (qdec_eq m c 0 h j a)) h i e

/-- A step's backward tile is the tile computation on the backward tokens. -/
theorem backward_tile (t : Fin cfg0.N) (X : S2x4x64x64.Idx → EReal)
    (hX : ∀ d h a e, X (ix4 d h a e) = scanState (pr m c) (rd m c) d (batch t) h (256 * (t.val % 33)) a e) (h : Fin 4) (i : Fin 256) (e : Fin 64) :
    tileOut (iblk m c 2 t) (iblk m c 5 t) (iblk m c 6 t) (iblk m c 7 t) (iblk m c 8 t) X 1 h i e
      = scanOut (pr m c) (rd m c) 1 (batch t) h (256 * (t.val % 33) + (pos 1 i).val) e :=
  tileOut_eq hsw (batch t) (tileTok 1 t) _ _ _ (block_backward m c t) (block_cos_backward m c t) (block_sin_backward m c t) hr 1 _ (fun _ => rfl) X (hX 1)
    _ (fun h i j => (block_decay m c t 1 h i j).trans (dec_eq m c 1 h i j)) _ (fun j h a => (block_query m c t 1 j _).trans (qdec_eq m c 1 h j a)) h i e

/-- The state before a point that is no batch's first. -/
theorem state_before (t : Fin cfg0.N) (h0 : ¬ t.val % 33 = 0) (d : Fin 2) (h : Fin 4) (a e : Fin 64) :
    (outsAt0 m c (t.val - 1) (Nat.lt_of_le_of_lt (Nat.sub_le _ _) t.isLt)).2.2 (ix4 d h a e)
      = scanState (pr m c) (rd m c) d (batch t) h (256 * (t.val % 33)) a e := by
  refine (state_eq hsw hr _ _ d h a e).trans ?_
  rw [show batch ⟨t.val - 1, Nat.lt_of_le_of_lt (Nat.sub_le _ _) t.isLt⟩ = batch t from Fin.ext (by show (t.val - 1) / 33 = t.val / 33; omega),
    show 256 * ((t.val - 1) % 33) + 256 = 256 * (t.val % 33) by omega]

/-- At the first tile of a batch the carried state is zero. -/
theorem state_first (t : Fin cfg0.N) (h0 : t.val % 33 = 0) (d : Fin 2) (h : Fin 4) (a e : Fin 64) :
    (0 : EReal) = scanState (pr m c) (rd m c) d (batch t) h (256 * (t.val % 33)) a e := by
  rw [h0]; rfl

/-- A point's outputs are the recurrence's at the tokens of the tile each direction takes. -/
theorem forward_out (t : Fin cfg0.N) (h : Fin 4) (i : Fin 256) (e : Fin 64) :
    (outsAt0 m c t.val t.isLt).1 (ix3 0 i (col h e)) = scanOut (pr m c) (rd m c) 0 (batch t) h (256 * (t.val % 33) + (pos 0 i).val) e := by
  by_cases h0 : t.val % 33 = 0
  · exact (forward_A m c t h0 h i e).trans (forward_tile hsw hr t _ (state_first hsw hr t h0) h i e)
  · exact (forward_B m c t h0 h i e).trans (forward_tile hsw hr t _ (state_before hsw hr t h0) h i e)

/-- A step writes the backward recurrence of its tile. -/
theorem backward_out (t : Fin cfg0.N) (h : Fin 4) (i : Fin 256) (e : Fin 64) :
    (outsAt0 m c t.val t.isLt).2.1 (ix3 0 i (col h e)) = scanOut (pr m c) (rd m c) 1 (batch t) h (256 * (t.val % 33) + (pos 1 i).val) e := by
  by_cases h0 : t.val % 33 = 0
  · exact (backward_A m c t h0 h i e).trans (backward_tile hsw hr t _ (state_first hsw hr t h0) h i e)
  · exact (backward_B m c t h0 h i e).trans (backward_tile hsw hr t _ (state_before hsw hr t h0) h i e)

end run

/-- A direction's result as an array: at each token, the recurrence's output when its scan comes to the token. -/
def scanned (pr : Fin 4 → Fin 8448 → Fin 1536 → EReal) (rd : Fin 2 → Fin 4 → EReal) (d : Fin 2) (i : S4x8448x256.Idx) : EReal :=
  scanOut pr rd d (i 0) ⟨(i 2).val / 64, by have : (i 2).val < 256 := (i 2).isLt; omega⟩ (tok d (i 1).val).val ⟨(i 2).val % 64, Nat.mod_lt _ (by decide)⟩

/-- The recurrence in scan order, read at a head's column. -/
theorem scanned_at (pr : Fin 4 → Fin 8448 → Fin 1536 → EReal) (rd : Fin 2 → Fin 4 → EReal) (d : Fin 2) (b : Fin 4) (n : Fin 8448) (h : Fin 4) (e : Fin 64) :
    scanned pr rd d (ix3 b n (col h e)) = scanOut pr rd d b h (tok d n.val).val e := by
  have eh : (⟨(64 * h.val + e.val) / 64, by omega⟩ : Fin 4) = h := Fin.ext (by show (64 * h.val + e.val) / 64 = h.val; omega)
  have ee : (⟨(64 * h.val + e.val) % 64, Nat.mod_lt _ (by decide)⟩ : Fin 64) = e := Fin.ext (by show (64 * h.val + e.val) % 64 = e.val; omega)
  show scanOut pr rd d b ⟨(64 * h.val + e.val) / 64, _⟩ (tok d n.val).val ⟨(64 * h.val + e.val) % 64, _⟩ = _
  rw [eh, ee]

/-- A scan comes to a token once. -/
theorem tok_tok (d : Fin 2) (s : ℕ) (hs : s < 8448) : (tok d (tok d s).val).val = s := by
  show (if d = 0 then (if d = 0 then s else if s < 256 then 255 - s else 8703 - s) % 8448
    else if (if d = 0 then s else if s < 256 then 255 - s else 8703 - s) % 8448 < 256 then 255 - (if d = 0 then s else if s < 256 then 255 - s else 8703 - s) % 8448
    else 8703 - (if d = 0 then s else if s < 256 then 255 - s else 8703 - s) % 8448) % 8448 = s
  split_ifs <;> omega

/-- Every column is a column of some head. -/
theorem column_of (j : Fin 256) : ∃ (h : Fin 4) (e : Fin 64), j = col h e :=
  ⟨⟨j.val / 64, by omega⟩, ⟨j.val % 64, Nat.mod_lt _ (by decide)⟩, Fin.ext (by show j.val = 64 * (j.val / 64) + j.val % 64; omega)⟩

/-- The scan order of a direction goes through a tile's tokens one after another. -/
theorem tile_step (d : Fin 2) (t : Fin cfg0.N) (i : Fin 256) : (tok d (tileTok d t i).val).val = 256 * (t.val % 33) + (pos d i).val :=
  tok_tok d _ (by have : t.val % 33 < 33 := Nat.mod_lt _ (by decide); have := (pos d i).isLt; omega)

section arrays
variable {m c} (hsw : Swapped (pr m c)) (hr : Real3 (pr m c))

include hsw hr

/-- The kernel's forward result, -/
theorem kernel_forward : (dats m 0 c).arrAt 10 cfg0.N = scanned (pr m c) (rd m c) 0 := by
  refine (dats m 0 c).arrAt_eq_of_covers 10 _ (by decide +kernel) fun t hf y => ?_
  blk_simp
  rw [after0_10]
  obtain ⟨y, rfl⟩ : ∃ y' : S1x256x256.Idx, y' = y := ⟨y, rfl⟩
  idx_vars y
  obtain rfl : y0 = 0 := Subsingleton.elim _ _
  obtain ⟨e0, e1, e2, e3, e4, e5, e6, e7, e8, e9, e10, e11⟩ := index_of t
  have hT := tileTok_forward t y1
  have hb : ((View.whole main_v127_0).slice (win0_10.rect t)).emb (ix3 0 y1 y2) = ix3 (batch t) (tileTok 0 t y1) y2 := by
    unfold batch
    blk_ext [e10, hT]
  rw [hb]
  obtain ⟨h, e, rfl⟩ := column_of y2
  rw [scanned_at, tile_step]
  exact forward_out hsw hr t h y1 e

/-- and its backward one. -/
theorem kernel_backward : (dats m 0 c).arrAt 11 cfg0.N = scanned (pr m c) (rd m c) 1 := by
  refine (dats m 0 c).arrAt_eq_of_covers 11 _ (by decide +kernel) fun t hf y => ?_
  blk_simp
  rw [after0_11]
  obtain ⟨y, rfl⟩ : ∃ y' : S1x256x256.Idx, y' = y := ⟨y, rfl⟩
  idx_vars y
  obtain rfl : y0 = 0 := Subsingleton.elim _ _
  obtain ⟨e0, e1, e2, e3, e4, e5, e6, e7, e8, e9, e10, e11⟩ := index_of t
  have hT := tileTok_backward t y1
  have hb : ((View.whole main_v127_1).slice (win0_11.rect t)).emb (ix3 0 y1 y2) = ix3 (batch t) (tileTok 1 t y1) y2 := by
    unfold batch
    blk_ext [e11, hT]
  rw [hb]
  obtain ⟨h, e, rfl⟩ := column_of y2
  rw [scanned_at, tile_step]
  exact backward_out hsw hr t h y1 e

end arrays

end Cert.RetentionValue
end
-- ==== Proof.RetentionPre.lean ====
module

public import proofs.«01_k».proof.Proof.Gen.Pre_swapped_and_finite
public import proofs.«01_k».proof.Proof.RetentionValue
public import Idealize.ShloMosaic.Lib.ReduceAll

@[expose] public section

set_option maxRecDepth 16384

noncomputable section

namespace Cert.RetentionPre

open Idealize.ShloMosaic Cert.Pre_swapped_and_finite Cert.Pre_swapped_and_finite.Gen Cert.RetentionMath Cert.RetentionValue

/-- A comparison's word is one where what it compares holds. -/
theorem of_word {P : Prop} [Decidable P] (h : BitVec.ofBool (decide P) = 1#1) : P := by
  by_contra hn
  rw [decide_eq_false hn] at h
  exact absurd h (by decide)

/-- The precondition, read at each index: the first 768 columns are real, and the last 512 are the first 512, each head's halves swapped. -/theorem parts (x : FVec Ideal S4x8448x1536 .f32) (d : FVec Ideal S2x4 .f32) (h : fn (F := Ideal) x d = fun _ => 1#1) :
    (∀ b n (j : Fin 768), ∃ r : ℝ, (x : S4x8448x1536.Idx → EReal) (ix3 b n ⟨j.val, by omega⟩) = (r : EReal))
    ∧ ∀ b n (h : Fin 8) (a : Fin 64), (x : S4x8448x1536.Idx → EReal) (ix3 b n ⟨1024 + (64 * h.val + a.val), by omega⟩)
        = (x : S4x8448x1536.Idx → EReal) (ix3 b n ⟨64 * h.val + (other a).val, by have := (other a).isLt; omega⟩) := by
  have sub : Subsingleton S_.Idx := ⟨fun i j => funext fun a => a.elim0⟩
  have e := congrFun h (fun a => a.elim0)
  unfold fn at e
  have e' := IntOp.andi_eq_one.mp e
  have e1 := fun i => Host.reduce_andi_all _ _ _ _ _ e'.1 i
  have e2 := fun i => Host.reduce_andi_all _ _ _ _ _ e'.2 i
  refine ⟨fun b n j => ?_, fun b n h a => ?_⟩
  · have q := e1 (ix3 b n j)
    pointwise [] at q
    clear e e' e1 e2
    have w : max (x (ix3 b n ⟨j.val, by omega⟩) : EReal) (-(x (ix3 b n ⟨j.val, by omega⟩) : EReal)) < Ideal.ofBits .f32 2139095040#32 := of_word q
    rw [show Ideal.ofBits .f32 2139095040#32 = (⊤ : EReal) from by simp [Ideal.ofBits, Ideal.ieee]] at w
    generalize (x (ix3 b n ⟨j.val, by omega⟩) : EReal) = y at w ⊢
    induction y using EReal.rec with
    | bot => exact absurd w (by simp)
    | top => exact absurd w (by simp)
    | coe r => exact ⟨r, rfl⟩
  · have q := e2 (ix4 b n h a)
    pointwise [] at q
    clear e e' e1 e2
    have w := of_word q
    have e1 : (⟨1024 + (64 * h.val + a.val), by omega⟩ : Fin 1536) = ⟨(16 + h.val) * 64 + a.val, by omega⟩ := Fin.ext (by show 1024 + (64 * h.val + a.val) = (16 + h.val) * 64 + a.val; omega)
    rw [e1]
    refine Eq.trans w ?_
    split_ifs with ha
    · exact congrArg (fun k => x (ix3 b n k)) (Fin.ext (by show h.val * 64 + (32 + a.val) = 64 * h.val + (if a.val < 32 then a.val + 32 else a.val - 32); rw [if_pos ha]; omega))
    all_goals exact congrArg (fun k => x (ix3 b n k)) (Fin.ext (by show h.val * 64 + (a.val - 32) = 64 * h.val + (if a.val < 32 then a.val + 32 else a.val - 32); rw [if_neg ha]; omega))

/-- So the projected columns are real where the recurrence reads them, and the last ones are the swapped ones. -/
theorem columns (P : Fin 4 → Fin 8448 → Fin 1536 → EReal) (x : FVec Ideal S4x8448x1536 .f32) (hx : ∀ b n j, (x : S4x8448x1536.Idx → EReal) (ix3 b n j) = P b n j)
    (d : FVec Ideal S2x4 .f32) (h : fn (F := Ideal) x d = fun _ => 1#1) : Real3 P ∧ Swapped P := by
  obtain ⟨h1, h2⟩ := parts x d h
  refine ⟨fun b n j hj => ?_, fun b n h a => ⟨?_, ?_⟩⟩
  · obtain ⟨r, e⟩ := h1 b n ⟨j.val, hj⟩
    exact ⟨r, (hx b n j).symm.trans e⟩
  · have e := h2 b n ⟨h.val, by omega⟩ a
    exact ((hx _ _ _).symm.trans e).trans (hx _ _ _)
  · have e := h2 b n ⟨4 + h.val, by omega⟩ a
    have o := (other a).isLt
    have l : (⟨1280 + (64 * h.val + a.val), by omega⟩ : Fin 1536) = ⟨1024 + (64 * (4 + h.val) + a.val), by omega⟩ := Fin.ext (by show 1280 + (64 * h.val + a.val) = 1024 + (64 * (4 + h.val) + a.val); omega)
    have r : (⟨256 + (64 * h.val + (other a).val), by omega⟩ : Fin 1536) = ⟨64 * (4 + h.val) + (other a).val, by omega⟩ := Fin.ext (by show 256 + (64 * h.val + (other a).val) = 64 * (4 + h.val) + (other a).val; omega)
    rw [l, r]
    exact ((hx _ _ _).symm.trans e).trans (hx _ _ _)

end Cert.RetentionPre
end
-- ==== Proof.RetentionEntry.lean ====
module

public import proofs.«01_k».proof.Proof.Gen.RetentionReferenceIdeal.Run
public import proofs.«01_k».proof.Proof.RetentionMath
public import Idealize.ShloMosaic.Lib.Pointwise
public import Idealize.ShloMosaic.Lib.StableHlo.RunRead

@[expose] public section

set_option maxRecDepth 16384

noncomputable section

namespace Cert.RetentionReferenceValue

open Cert.RetentionReferenceIdeal Cert.RetentionReferenceIdeal.Value Cert.RetentionMath Idealize.ShloMosaic Idealize.ShloMosaic.TcCoe Idealize.ShloMosaic.StableHlo Idealize.SL.Sem

variable (m : (ℓ : Loc nD τ sig) → Buf (Elt Ideal) ℓ)

/-- The decay parameters, and the projected columns, as the launch memory holds them. -/
def rd (c : Dev nD) (d : Fin 2) (h : Fin 4) : EReal := (m (c.tc.loc main_arg1) : S2x4.Idx → EReal) (ix2 d h)
/-- The projected columns of a token, as the reference receives them. -/
def pr (c : Dev nD) (b : Fin 4) (n : Fin 8448) (j : Fin 1536) : EReal := (launchContents m c (Proc.devRef .tc main_arg0) : S4x8448x1536.Idx → EReal) (ix3 b n j)

/-- Forward, step `s` is token `s`; backward, it counts down the context and then the latents. -/
theorem tok_forward (s : Fin 8448) : tok 0 s.val = s := Fin.ext (by
  show (if (0 : Fin 2) = 0 then s.val else _) % 8448 = s.val
  rw [if_pos rfl, Nat.mod_eq_of_lt s.isLt])

/-- The backward order begins with the context from its end. -/
theorem tok_backward_context (s : Fin 8448) (h : s.val < 256) : tok 1 s.val = ⟨255 - s.val, by omega⟩ := Fin.ext (by
  show (if (1 : Fin 2) = 0 then s.val else if s.val < 256 then 255 - s.val else 8703 - s.val) % 8448 = 255 - s.val
  rw [if_neg (by decide), if_pos h, Nat.mod_eq_of_lt (by omega)])

/-- The backward order goes on with the latents from their end. -/
theorem tok_backward_latent (s : Fin 8448) (h : ¬ s.val < 256) : tok 1 s.val = ⟨8703 - s.val, by omega⟩ := Fin.ext (by
  show (if (1 : Fin 2) = 0 then s.val else if s.val < 256 then 255 - s.val else 8703 - s.val) % 8448 = 8703 - s.val
  rw [if_neg (by decide), if_neg h, Nat.mod_eq_of_lt (by omega)])

/-- Columns at equal places are the same place. -/
theorem ix_congr (b : Fin 4) {n n' : Fin 8448} {j j' : Fin 1536} (hn : n.val = n'.val) (hj : j.val = j'.val) : ix3 b n j = ix3 b n' j' := by
  rw [Fin.ext hn, Fin.ext hj]

/-- The token of step `s`, case by case. -/
theorem tok_val (d : Fin 2) (s : Fin 8448) : (tok d s.val).val = if d.val < 1 then s.val else if s.val < 256 then 256 - (s.val + 1) else 256 + (8192 - (s.val - 256 + 1)) := by
  have hs := s.isLt
  show (if d = 0 then s.val else if s.val < 256 then 255 - s.val else 8703 - s.val) % 8448 = _
  by_cases hd : d.val < 1
  · rw [if_pos (Fin.ext (by omega)), if_pos hd, Nat.mod_eq_of_lt hs]
  · rw [if_neg (fun e => hd (by rw [e]; decide)), if_neg hd]
    split_ifs <;> rw [Nat.mod_eq_of_lt (by omega)] <;> omega

/-- The angles, folded. -/
theorem angle_fold (n a : ℕ) : (if h : a < 16 then
    FloatOps.sitofp (F := Ideal) .f32 (BitVec.ofNat 32 (n / 64)) * Ideal.pow (Ideal.ofBits .f32 1176256512#32)
      (Ideal.div (-FloatOps.sitofp (F := Ideal) .f32 (BitVec.ofNat 32 a)) (Ideal.ofBits .f32 1098907648#32))
  else
    FloatOps.sitofp (F := Ideal) .f32 (BitVec.ofNat 32 (n % 64)) * Ideal.pow (Ideal.ofBits .f32 1176256512#32)
      (Ideal.div (-FloatOps.sitofp (F := Ideal) .f32 (BitVec.ofNat 32 (a - 16))) (Ideal.ofBits .f32 1098907648#32))) = angle n a := rfl

/-- A head's numbers rotated, in the three ways the reference computes them. -/
theorem rot_context (x : Fin 64 → EReal) (n : ℕ) (a : Fin 64) (hn : n < 256) {p : EReal} (hp : p = x a) : p = rot x n a := by
  rw [rot, if_pos hn, hp]

/-- The rotated entry of a latent token in the first half of a head. -/
theorem rot_low (x : Fin 64 → EReal) (n k : ℕ) (a : Fin 64) (hn : n = 256 + k) (ha : a.val < 32) {p q : EReal} (hp : p = x a)
    (hq : q = x ⟨a.val + 32, by omega⟩) : p * Ideal.cos (angle k a.val) - q * Ideal.sin (angle k a.val) = rot x n a := by
  rw [rot, if_neg (by omega), dif_pos ha, hp, hq, hn, Nat.add_sub_cancel_left, sub_eq_add_neg, mul_neg]

/-- The rotated entry of a latent token in the second half of a head. -/
theorem rot_high (x : Fin 64 → EReal) (n k : ℕ) (a : Fin 64) (hn : n = 256 + k) (ha : ¬ a.val < 32) {p q : EReal} (hp : p = x ⟨a.val - 32, by omega⟩)
    (hq : q = x a) : p * Ideal.sin (angle k (a.val - 32)) + q * Ideal.cos (angle k (a.val - 32)) = rot x n a := by
  rw [rot, if_neg (by omega), dif_neg ha, hp, hq, hn, Nat.add_sub_cancel_left, add_comm]

/-- The decays of the loop. -/
theorem entry_decay (c : Dev nD) (d : Fin 2) (h : Fin 4) :
    (entryContents preI m c (Proc.devRef .tc main_v129_3) : S2x4.Idx → EReal) (ix2 d h) = decay (rd m c d h) := by
  simp only [entryContents, afterL_cons, afterL_nil]
  repeat (after_reads_simp; (try simp only [TRef.toBuf, TRef.ofBuf, cast_eq, id_eq]); (try pointwise []))
  rfl

/-- The loop starts with no state. -/
theorem entry_state (c : Dev nD) (d : Fin 2) (b h : Fin 4) (a e : Fin 64) :
    (entryContents preI m c (Proc.devRef .tc main_v129_5) : S2x4x4x64x64.Idx → EReal) (ix5 d b h a e) = (0 : EReal) := by
  simp only [entryContents, afterL_cons, afterL_nil]
  repeat (after_reads_simp; (try simp only [TRef.toBuf, TRef.ofBuf, cast_eq, id_eq]); (try pointwise []))

/-- The loop's values. -/
theorem entry_vv (c : Dev nD) (s : Fin 8448) (d : Fin 2) (b h : Fin 4) (a : Fin 64) :
    (entryContents preI m c (Proc.devRef .tc main_v129_2) : S8448x2x4x4x64.Idx → EReal) (ix5 s d b h a) = vv (pr m c) b h (tok d s.val) a := by
  simp only [entryContents, afterL_cons, afterL_nil]
  repeat (after_reads_simp; (try simp only [TRef.toBuf, TRef.ofBuf, cast_eq, id_eq]); (try pointwise []))
  simp only [List.mem_singleton, Fin.isValue, Fin.reduceEq, Nat.reduceEqDiff, OfNat.zero_ne_ofNat, OfNat.one_ne_ofNat, reduceIte, Fin.val_rev]
  have hv : vv (pr m c) b h (tok d s.val) a = launchContents m c (Proc.tc.devRef main_arg0) (ix3 b (tok d s.val) ⟨512 + (64 * h.val + a.val), by omega⟩) := rfl
  refine Eq.trans ?_ hv.symm
  clear hv
  have ht := tok_val d s
  split_ifs at ht ⊢ with h1 h2
  all_goals exact congrArg (launchContents m c (Proc.tc.devRef main_arg0)) (ix_congr b ht.symm (by show 512 + (h.val * 64 + a.val) = 512 + (64 * h.val + a.val); omega))

set_option maxHeartbeats 4000000 in
/-- The loop's queries. -/
theorem entry_qv (c : Dev nD) (s : Fin 8448) (d : Fin 2) (b h : Fin 4) (a : Fin 64) :
    (entryContents preI m c (Proc.devRef .tc main_v129_0) : S8448x2x4x4x64.Idx → EReal) (ix5 s d b h a) = qv (pr m c) b h (tok d s.val) a := by
  simp only [entryContents, afterL_cons, afterL_nil]
  repeat (after_reads_simp; (try simp only [TRef.toBuf, TRef.ofBuf, cast_eq, id_eq]); (try pointwise []))
  simp only [List.mem_singleton, Fin.isValue, Fin.reduceEq, Nat.reduceEqDiff, OfNat.zero_ne_ofNat, OfNat.one_ne_ofNat, reduceIte, Fin.val_rev]
  have hv : qv (pr m c) b h (tok d s.val) a = rot (fun a : Fin 64 => launchContents m c (Proc.tc.devRef main_arg0) (ix3 b (tok d s.val) ⟨64 * h.val + a.val, by omega⟩)) (tok d s.val).val a := rfl
  refine Eq.trans ?_ hv.symm
  clear hv
  simp only [angle_fold]
  have ht := tok_val d s
  split_ifs at ht ⊢ with h1 h2 h3
  all_goals first
    | exact (rot_context (fun a : Fin 64 => launchContents m c (Proc.tc.devRef main_arg0) (ix3 b (tok d s.val) ⟨64 * h.val + a.val, by omega⟩)) _ a (by omega) (congrArg (launchContents m c (Proc.tc.devRef main_arg0)) (ix_congr b (Eq.trans (by first | exact (by omega : 256 + (s.val - 256) = s.val) | rfl) ht.symm) (by show (h.val * 64 + (a.val)) = 64 * h.val + (a.val); omega))))
    | exact (rot_low (fun a : Fin 64 => launchContents m c (Proc.tc.devRef main_arg0) (ix3 b (tok d s.val) ⟨64 * h.val + a.val, by omega⟩)) _ _ a (by omega) (by assumption) (congrArg (launchContents m c (Proc.tc.devRef main_arg0)) (ix_congr b (Eq.trans (by first | exact (by omega : 256 + (s.val - 256) = s.val) | rfl) ht.symm) (by show (h.val * 64 + (a.val)) = 64 * h.val + (a.val); omega))) (congrArg (launchContents m c (Proc.tc.devRef main_arg0)) (ix_congr b (Eq.trans (by first | exact (by omega : 256 + (s.val - 256) = s.val) | rfl) ht.symm) (by show (h.val * 64 + (32 + a.val)) = 64 * h.val + (a.val + 32); omega))))
    | exact (rot_high (fun a : Fin 64 => launchContents m c (Proc.tc.devRef main_arg0) (ix3 b (tok d s.val) ⟨64 * h.val + a.val, by omega⟩)) _ _ a (by omega) (by assumption) (congrArg (launchContents m c (Proc.tc.devRef main_arg0)) (ix_congr b (Eq.trans (by first | exact (by omega : 256 + (s.val - 256) = s.val) | rfl) ht.symm) (by show (h.val * 64 + (a.val - 32)) = 64 * h.val + (a.val - 32); omega))) (congrArg (launchContents m c (Proc.tc.devRef main_arg0)) (ix_congr b (Eq.trans (by first | exact (by omega : 256 + (s.val - 256) = s.val) | rfl) ht.symm) (by show (h.val * 64 + (32 + (a.val - 32))) = 64 * h.val + (a.val); omega))))

set_option maxHeartbeats 4000000 in
/-- The loop's keys. -/
theorem entry_kv (c : Dev nD) (s : Fin 8448) (d : Fin 2) (b h : Fin 4) (a : Fin 64) :
    (entryContents preI m c (Proc.devRef .tc main_v129_1) : S8448x2x4x4x64.Idx → EReal) (ix5 s d b h a) = kv (pr m c) b h (tok d s.val) a := by
  simp only [entryContents, afterL_cons, afterL_nil]
  repeat (after_reads_simp; (try simp only [TRef.toBuf, TRef.ofBuf, cast_eq, id_eq]); (try pointwise []))
  simp only [List.mem_singleton, Fin.isValue, Fin.reduceEq, Nat.reduceEqDiff, OfNat.zero_ne_ofNat, OfNat.one_ne_ofNat, reduceIte, Fin.val_rev]
  have hv : kv (pr m c) b h (tok d s.val) a = rot (fun a : Fin 64 => launchContents m c (Proc.tc.devRef main_arg0) (ix3 b (tok d s.val) ⟨256 + (64 * h.val + a.val), by omega⟩)) (tok d s.val).val a * Ideal.ofBits .f32 1040187392#32 := rfl
  refine Eq.trans ?_ hv.symm
  clear hv
  simp only [angle_fold]
  have ht := tok_val d s
  split_ifs at ht ⊢ with h1 h2 h3
  all_goals first
    | exact congrArg (fun z : EReal => z * Ideal.ofBits .f32 1040187392#32) (rot_context (fun a : Fin 64 => launchContents m c (Proc.tc.devRef main_arg0) (ix3 b (tok d s.val) ⟨256 + (64 * h.val + a.val), by omega⟩)) _ a (by omega) (congrArg (launchContents m c (Proc.tc.devRef main_arg0)) (ix_congr b (Eq.trans (by first | exact (by omega : 256 + (s.val - 256) = s.val) | rfl) ht.symm) (by show 256 + (h.val * 64 + (a.val)) = 256 + (64 * h.val + (a.val)); omega))))
    | exact congrArg (fun z : EReal => z * Ideal.ofBits .f32 1040187392#32) (rot_low (fun a : Fin 64 => launchContents m c (Proc.tc.devRef main_arg0) (ix3 b (tok d s.val) ⟨256 + (64 * h.val + a.val), by omega⟩)) _ _ a (by omega) (by assumption) (congrArg (launchContents m c (Proc.tc.devRef main_arg0)) (ix_congr b (Eq.trans (by first | exact (by omega : 256 + (s.val - 256) = s.val) | rfl) ht.symm) (by show 256 + (h.val * 64 + (a.val)) = 256 + (64 * h.val + (a.val)); omega))) (congrArg (launchContents m c (Proc.tc.devRef main_arg0)) (ix_congr b (Eq.trans (by first | exact (by omega : 256 + (s.val - 256) = s.val) | rfl) ht.symm) (by show 256 + (h.val * 64 + (32 + a.val)) = 256 + (64 * h.val + (a.val + 32)); omega))))
    | exact congrArg (fun z : EReal => z * Ideal.ofBits .f32 1040187392#32) (rot_high (fun a : Fin 64 => launchContents m c (Proc.tc.devRef main_arg0) (ix3 b (tok d s.val) ⟨256 + (64 * h.val + a.val), by omega⟩)) _ _ a (by omega) (by assumption) (congrArg (launchContents m c (Proc.tc.devRef main_arg0)) (ix_congr b (Eq.trans (by first | exact (by omega : 256 + (s.val - 256) = s.val) | rfl) ht.symm) (by show 256 + (h.val * 64 + (a.val - 32)) = 256 + (64 * h.val + (a.val - 32)); omega))) (congrArg (launchContents m c (Proc.tc.devRef main_arg0)) (ix_congr b (Eq.trans (by first | exact (by omega : 256 + (s.val - 256) = s.val) | rfl) ht.symm) (by show 256 + (h.val * 64 + (32 + (a.val - 32))) = 256 + (64 * h.val + (a.val)); omega))))

end Cert.RetentionReferenceValue
end
-- ==== Proof.RetentionLoop.lean ====
module

public import proofs.«01_k».proof.Proof.RetentionEntry
public import Idealize.ShloMosaic.Lib.WordCmp

@[expose] public section

set_option maxRecDepth 16384

noncomputable section

namespace Cert.RetentionReferenceValue

open Cert.RetentionReferenceIdeal Cert.RetentionReferenceIdeal.Gen Cert.RetentionReferenceIdeal.Value Cert.RetentionMath Idealize.ShloMosaic Idealize.ShloMosaic.TcCoe Idealize.ShloMosaic.StableHlo Idealize.SL.Sem

variable (m : (ℓ : Loc nD τ sig) → Buf (Elt Ideal) ℓ)

/-- A loop's window starts, at step `s`. -/
theorem starts (V0 : Valuation τ sig (Elt Ideal)) (s : Fin 8448) (hk : V0 (Proc.devRef .tc main_v129_4) = fun _ => BitVec.ofNat 32 s.val) (k : Fin 5) :
    (((![V0 (Proc.devRef .tc main_v129_4), constantI S_ 32 0#32, constantI S_ 32 0#32, constantI S_ 32 0#32, constantI S_ 32 0#32] : Fin 5 → (⟨S_, .i32⟩ : BufTy).Contents (Elt Ideal))) k (Shape.Idx.first h_S_)).toInt = ((![s.val, 0, 0, 0, 0] : Fin 5 → ℕ) k : Int) := by
  have hs := s.isLt
  match k with
  | 0 =>
    show (V0 (Proc.devRef .tc main_v129_4) (Shape.Idx.first h_S_)).toInt = (s.val : Int)
    rw [hk]
    exact WordCmp.toInt_ofNat_of_lt (by simp; omega)
  | 1 => rfl
  | 2 => rfl
  | 3 => rfl
  | 4 => rfl

/-- A step's window lies in the loop array. -/
theorem fits (s : Fin 8448) : S8448x2x4x4x64.Slices ![s.val, 0, 0, 0, 0] S1x2x4x4x64 := by
  have hs := s.isLt
  refine ⟨rfl, fun k => ?_⟩
  match k with
  | 0 => show s.val + 1 ≤ 8448; omega
  | 1 => exact (by decide : 0 + 2 ≤ 2)
  | 2 => exact (by decide : 0 + 4 ≤ 4)
  | 3 => exact (by decide : 0 + 4 ≤ 4)
  | 4 => exact (by decide : 0 + 64 ≤ 64)

/-- One step's window of a loop array, at a point. -/
theorem window (X : S8448x2x4x4x64.Idx → EReal) (st : Fin 5 → Int) (s : Fin 8448) (h : ∀ k, st k = ((![s.val, 0, 0, 0, 0] : Fin 5 → ℕ) k : Int))
    (d : Fin 2) (b g : Fin 4) (a : Fin 64) :
    (shapeCast S2x4x4x64 (Host.dynamicSlice S1x2x4x4x64 X st sliceFits_S8448x2x4x4x64_S1x2x4x4x64) shapeCasts_S1x2x4x4x64_S2x4x4x64 : S2x4x4x64.Idx → EReal) (ix4 d b g a)
      = X (ix5 s d b g a) := by
  rw [WordCmp.dynamicSlice_eq_extract S1x2x4x4x64 X st sliceFits_S8448x2x4x4x64_S1x2x4x4x64 ![s.val, 0, 0, 0, 0] (fits s) h]
  pointwise []

/-- The state after a step. -/
theorem res_point (V0 : Valuation τ sig (Elt Ideal)) (s : Fin 8448) (hk : V0 (Proc.devRef .tc main_v129_4) = fun _ => BitVec.ofNat 32 s.val)
    (S : S2x4x4x64x64.Idx → EReal) (hS : V0 (Proc.devRef .tc main_v129_5) = S) (G : S2x4.Idx → EReal) (hG : V0 (Proc.devRef .tc main_v129_3) = G)
    (X : S8448x2x4x4x64.Idx → EReal) (hX : V0 (Proc.devRef .tc main_v129_1) = X) (Y : S8448x2x4x4x64.Idx → EReal) (hY : V0 (Proc.devRef .tc main_v129_2) = Y)
    (d : Fin 2) (b h : Fin 4) (a e : Fin 64) :
    (res_main_while0b_v155 V0 : S2x4x4x64x64.Idx → EReal) (ix5 d b h a e)
      = S (ix5 d b h a e) * G (ix2 d h) + X (ix5 s d b h a) * Y (ix5 s d b h e) := by
  unfold res_main_while0b_v155
  rw [hS, hG, hX, hY]
  generalize hK : shapeCast S2x4x4x64 (Host.dynamicSlice S1x2x4x4x64 X _ _) _ = K
  generalize hW : shapeCast S2x4x4x64 (Host.dynamicSlice S1x2x4x4x64 Y _ _) _ = W
  pointwise []
  have eK : ∀ a, (K : S2x4x4x64.Idx → EReal) (ix4 d b h a) = X (ix5 s d b h a) := fun a => by
    rw [← hK]; exact window _ _ s (starts V0 s hk) d b h a
  have eW : ∀ a, (W : S2x4x4x64.Idx → EReal) (ix4 d b h a) = Y (ix5 s d b h a) := fun a => by
    rw [← hW]; exact window _ _ s (starts V0 s hk) d b h a
  rw [eK, eW]

/-- One step's outputs written into the loop array. -/
theorem put_step (O : S8448x2x4x4x64.Idx → EReal) (U : S1x2x4x4x64.Idx → EReal) (s s' : Fin 8448) (d : Fin 2) (b h : Fin 4) (e : Fin 64) :
    updateSlice O U ![s.val, 0, 0, 0, 0] (fits s) (ix5 s' d b h e) = if s' = s then U (ix5 0 d b h e) else O (ix5 s' d b h e) := by
  unfold updateSlice
  by_cases hs : s' = s
  · subst hs
    rw [if_pos rfl, dif_pos (fun k => by
      match k with
      | 0 => exact ⟨Nat.le_refl _, Nat.lt_succ_self _⟩
      | 1 => exact ⟨Nat.zero_le _, by show d.val < 0 + 2; omega⟩
      | 2 => exact ⟨Nat.zero_le _, by show b.val < 0 + 4; omega⟩
      | 3 => exact ⟨Nat.zero_le _, by show h.val < 0 + 4; omega⟩
      | 4 => exact ⟨Nat.zero_le _, by show e.val < 0 + 64; omega⟩)]
    refine congrArg U (funext fun k => Fin.ext ?_)
    match k with
    | 0 => exact Nat.sub_self _
    | 1 => rfl
    | 2 => rfl
    | 3 => rfl
    | 4 => rfl
  · rw [if_neg hs, dif_neg fun hin => ?_]
    have h0 : s.val ≤ s'.val ∧ s'.val < s.val + 1 := hin 0
    exact hs (Fin.ext (by omega))

/-- The outputs after a step. -/
theorem out_point (V0 : Valuation τ sig (Elt Ideal)) (s : Fin 8448) (hk : V0 (Proc.devRef .tc main_v129_4) = fun _ => BitVec.ofNat 32 s.val)
    (O : S8448x2x4x4x64.Idx → EReal) (hO : V0 (Proc.devRef .tc main_v129_6) = O) (X : S8448x2x4x4x64.Idx → EReal) (hX : V0 (Proc.devRef .tc main_v129_0) = X)
    (R : S2x4x4x64x64.Idx → EReal) (hR : res_main_while0b_v155 V0 = R)
    (s' : Fin 8448) (d : Fin 2) (b h : Fin 4) (e : Fin 64) :
    (step_main_v129_6 V0 : S8448x2x4x4x64.Idx → EReal) (ix5 s' d b h e)
      = if s' = s then ∑ a : Fin 64, X (ix5 s d b h a) * R (ix5 d b h a e) else O (ix5 s' d b h e) := by
  unfold step_main_v129_6
  rw [hO, hX, hR]
  generalize hK : shapeCast S2x4x4x64 (Host.dynamicSlice S1x2x4x4x64 X _ _) _ = K
  have eK : ∀ a, (K : S2x4x4x64.Idx → EReal) (ix4 d b h a) = X (ix5 s d b h a) := fun a => by
    rw [← hK]; exact window _ _ s (starts V0 s hk) d b h a
  rw [WordCmp.dynamicUpdateSlice_eq_update _ _ _ _ ![s.val, 0, 0, 0, 0] (fits s) (starts V0 s hk)]
  rw [id_eq, put_step]
  split_ifs with hs
  · pointwise []
    simp only [eK]
  · rfl

/-- What the loop holds after `s` steps: its inputs as they came, the counter `s`, the state of the recurrence, and the outputs of the steps done. -/
theorem loop (c : Dev nD) (s : ℕ) (hs : s ≤ 8448) :
    (STEP^[s] (entryContents preI m c) (Proc.devRef .tc main_v129_0) = entryContents preI m c (Proc.devRef .tc main_v129_0))
    ∧ (STEP^[s] (entryContents preI m c) (Proc.devRef .tc main_v129_1) = entryContents preI m c (Proc.devRef .tc main_v129_1))
    ∧ (STEP^[s] (entryContents preI m c) (Proc.devRef .tc main_v129_2) = entryContents preI m c (Proc.devRef .tc main_v129_2))
    ∧ (STEP^[s] (entryContents preI m c) (Proc.devRef .tc main_v129_3) = entryContents preI m c (Proc.devRef .tc main_v129_3))
    ∧ (STEP^[s] (entryContents preI m c) (Proc.devRef .tc main_v129_4) = fun _ => BitVec.ofNat 32 s)
    ∧ (∀ d b h a e, (STEP^[s] (entryContents preI m c) (Proc.devRef .tc main_v129_5) : S2x4x4x64x64.Idx → EReal) (ix5 d b h a e) = scanState (pr m c) (rd m c) d b h s a e)
    ∧ (∀ (s' : Fin 8448) d b h e, s'.val < s →
        (STEP^[s] (entryContents preI m c) (Proc.devRef .tc main_v129_6) : S8448x2x4x4x64.Idx → EReal) (ix5 s' d b h e) = scanOut (pr m c) (rd m c) d b h s'.val e) := by
  induction s with
  | zero => exact ⟨rfl, rfl, rfl, rfl, ctr_entry m c, fun d b h a e => entry_state m c d b h a e, fun s' d b h e hlt => absurd hlt (Nat.not_lt_zero _)⟩
  | succ s ih =>
    obtain ⟨h0, h1, h2, h3, h4, h5, h6⟩ := ih (Nat.le_of_succ_le hs)
    rw [Function.iterate_succ_apply']
    generalize hW : STEP^[s] (entryContents preI m c) = W at h0 h1 h2 h3 h4 h5 h6 ⊢
    have hr : ∀ d b h a e, (res_main_while0b_v155 W : S2x4x4x64x64.Idx → EReal) (ix5 d b h a e) = scanState (pr m c) (rd m c) d b h (s + 1) a e := fun d b h a e => by
      refine (res_point W ⟨s, hs⟩ h4 _ rfl _ h3 _ h1 _ h2 d b h a e).trans ?_
      rw [h5, entry_decay, entry_kv, entry_vv]
      rfl
    refine ⟨(STEP_main_v129_0 W).trans h0, (STEP_main_v129_1 W).trans h1, (STEP_main_v129_2 W).trans h2, (STEP_main_v129_3 W).trans h3, ?_, ?_, ?_⟩
    · rw [STEP_main_v129_4]
      unfold step_main_v129_4
      rw [h4]
      funext i
      exact (BitVec.ofNat_add s 1).symm
    · intro d b h a e
      rw [STEP_main_v129_5]
      exact hr d b h a e
    · intro s' d b h e hlt
      rw [STEP_main_v129_6]
      refine (out_point W ⟨s, hs⟩ h4 _ rfl _ h0 _ rfl s' d b h e).trans ?_
      split_ifs with he
      · subst he
        show _ = ∑ a : Fin 64, qv (pr m c) b h (tok d s) a * scanState (pr m c) (rd m c) d b h (s + 1) a e
        refine Finset.sum_congr rfl fun a _ => ?_
        rw [hr]
        exact congrArg (fun z : EReal => z * scanState (pr m c) (rd m c) d b h (s + 1) a e) (entry_qv m c ⟨s, hs⟩ d b h a)
      · exact h6 s' d b h e (Nat.lt_of_le_of_ne (Nat.le_of_lt_succ hlt) fun q => he (Fin.ext q))

/-- The forward result, read from the loop's outputs, -/
theorem forward_point (V0 : Valuation τ sig (Elt Ideal)) (O : S8448x2x4x4x64.Idx → EReal) (hO : V0 (Proc.devRef .tc main_v129_6) = O)
    (b h : Fin 4) (n : Fin 8448) (e : Fin 64) :
    (out_main_v134 V0 : S4x8448x256.Idx → EReal) (ix3 b n ⟨64 * h.val + e.val, by omega⟩) = O (ix5 n 0 b h e) := by
  unfold out_main_v134
  rw [hO]
  pointwise []

/-- and the backward one, whose steps run against the tokens. -/
theorem backward_point (V0 : Valuation τ sig (Elt Ideal)) (O : S8448x2x4x4x64.Idx → EReal) (hO : V0 (Proc.devRef .tc main_v129_6) = O)
    (b h : Fin 4) (n : Fin 8448) (e : Fin 64) :
    (out_main_v143 V0 : S4x8448x256.Idx → EReal) (ix3 b n ⟨64 * h.val + e.val, by omega⟩) = O (ix5 (tok 1 n.val) 1 b h e) := by
  unfold out_main_v143
  rw [hO]
  pointwise []
  simp only [List.mem_singleton, Fin.isValue, Fin.reduceEq, reduceIte]
  have ht := tok_val 1 n
  rw [if_neg (by decide)] at ht
  split_ifs at ht ⊢ with hn
  all_goals exact congrArg (fun s => O (ix5 s 1 b h e)) (Fin.ext ht.symm)

/-- The forward result is the recurrence's output, token by token, -/
theorem forward_eq (c : Dev nD) (b h : Fin 4) (n : Fin 8448) (e : Fin 64) :
    (out_main_v134 (STEP^[8448] (entryContents preI m c)) : S4x8448x256.Idx → EReal) (ix3 b n ⟨64 * h.val + e.val, by omega⟩)
      = scanOut (pr m c) (rd m c) 0 b h n.val e :=
  (forward_point _ _ rfl b h n e).trans ((loop m c 8448 (Nat.le_refl _)).2.2.2.2.2.2 n 0 b h e n.isLt)

/-- and the backward result is the recurrence's output over the tokens in the other order. -/
theorem backward_eq (c : Dev nD) (b h : Fin 4) (n : Fin 8448) (e : Fin 64) :
    (out_main_v143 (STEP^[8448] (entryContents preI m c)) : S4x8448x256.Idx → EReal) (ix3 b n ⟨64 * h.val + e.val, by omega⟩)
      = scanOut (pr m c) (rd m c) 1 b h (tok 1 n.val).val e :=
  (backward_point _ _ rfl b h n e).trans ((loop m c 8448 (Nat.le_refl _)).2.2.2.2.2.2 (tok 1 n.val) 1 b h e (tok 1 n.val).isLt)

end Cert.RetentionReferenceValue
end
-- ==== Proof.RetentionClaims.lean ====
module

public import proofs.«01_k».proof.Defs
public import proofs.«01_k».proof.Proof.Gen.RetentionReferenceIdeal
public import proofs.«01_k».proof.Proof.RetentionPre
public import proofs.«01_k».proof.Proof.RetentionLoop
public import Idealize.ShloMosaic.Lib.Quiescent

@[expose] public section

set_option maxRecDepth 16384

noncomputable section

namespace Cert.RetentionClaims

open Idealize.ShloMosaic Idealize.ShloMosaic.TcCoe Idealize.SL.Sem Cert.RetentionMath

/-- The retention reference terminates and leaves its arguments; it has no counters. -/
theorem reference_frame : Cert.quiescent_RetentionReferenceIdeal := fun m ρ _ =>
  (θ_run _ _ _).mono (fun r h => ⟨fun c => (h c).2.2, sem_eq_zero_of_no_sems (by decide) r.2⟩)
    (Cert.RetentionReferenceIdeal.Value.run m ρ)

/-- The same, under the precondition. -/
theorem reference_frame_pre : Cert.quiescent_RetentionReferenceIdeal_pre_swapped_and_finite := fun m ρ _ => reference_frame m ρ trivial

/-- The reference's two results are the recurrence's outputs, forward and backward. -/
theorem reference_forward (m : (ℓ : Loc Cert.RetentionReferenceIdeal.nD Cert.RetentionReferenceIdeal.τ Cert.RetentionReferenceIdeal.sig) → Buf (Elt Ideal) ℓ)
    (c : Dev Cert.RetentionReferenceIdeal.nD) :
    (Cert.RetentionReferenceIdeal.Value.out_main_v134 (Cert.RetentionReferenceIdeal.Value.STEP^[8448] (StableHlo.entryContents Cert.RetentionReferenceIdeal.Value.preI m c))
      : Cert.RetentionIdeal.S4x8448x256.Idx → EReal)
      = Cert.RetentionValue.scanned (Cert.RetentionReferenceValue.pr m c) (Cert.RetentionReferenceValue.rd m c) 0 := by
  funext i
  idx_vars i
  obtain ⟨h, e, rfl⟩ := Cert.RetentionValue.column_of i2
  rw [Cert.RetentionValue.scanned_at, Cert.RetentionReferenceValue.tok_forward]
  exact Cert.RetentionReferenceValue.forward_eq m c i0 h i1 e

/-- The second result of the reference is the backward recurrence. -/
theorem reference_backward (m : (ℓ : Loc Cert.RetentionReferenceIdeal.nD Cert.RetentionReferenceIdeal.τ Cert.RetentionReferenceIdeal.sig) → Buf (Elt Ideal) ℓ)
    (c : Dev Cert.RetentionReferenceIdeal.nD) :
    (Cert.RetentionReferenceIdeal.Value.out_main_v143 (Cert.RetentionReferenceIdeal.Value.STEP^[8448] (StableHlo.entryContents Cert.RetentionReferenceIdeal.Value.preI m c))
      : Cert.RetentionIdeal.S4x8448x256.Idx → EReal)
      = Cert.RetentionValue.scanned (Cert.RetentionReferenceValue.pr m c) (Cert.RetentionReferenceValue.rd m c) 1 := by
  funext i
  idx_vars i
  obtain ⟨h, e, rfl⟩ := Cert.RetentionValue.column_of i2
  rw [Cert.RetentionValue.scanned_at]
  exact Cert.RetentionReferenceValue.backward_eq m c i0 h i1 e

/-- The retention kernel and the token recurrence leave equal results, where the columns are real and the last ones are the swapped ones. -/
theorem retention : Cert.algebraic_RetentionIdeal_RetentionReferenceIdeal_pre_swapped_and_finite := by
  intro m g m' g' hpre hag
  have hc := fun c => Cert.RetentionPre.columns (Cert.RetentionValue.pr m c) _ (fun _ _ _ => rfl) _ (hpre c)
  refine ⟨fun c => Cert.RetentionValue.scanned (Cert.RetentionValue.pr m c) (Cert.RetentionValue.rd m c) 0,
    fun c => Cert.RetentionValue.scanned (Cert.RetentionValue.pr m c) (Cert.RetentionValue.rd m c) 1, ?_, ?_⟩
  · refine (θ_run _ _ _).mono (fun r h c => ?_) (Cert.RetentionIdeal.Value.run_blocks m g)
    exact ⟨(h c).1.trans (Cert.RetentionValue.kernel_forward (hc c).2 (hc c).1), (h c).2.1.trans (Cert.RetentionValue.kernel_backward (hc c).2 (hc c).1), (h c).2.2⟩
  · refine (θ_run _ _ _).mono (fun r h c => ?_) (Cert.RetentionReferenceIdeal.Value.run m' g')
    have ep : Cert.RetentionReferenceValue.pr m' c = Cert.RetentionValue.pr m c := funext fun b => funext fun n => funext fun j => congrFun (hag c).1 (ix3 b n j)
    have er : Cert.RetentionReferenceValue.rd m' c = Cert.RetentionValue.rd m c := funext fun d => funext fun k => congrFun (hag c).2 (ix2 d k)
    refine ⟨(h c).1.trans ((reference_forward m' c).trans ?_), (h c).2.1.trans ((reference_backward m' c).trans ?_), (h c).2.2⟩
    · rw [ep, er]
    · rw [ep, er]

end Cert.RetentionClaims

end
-- ==== Proof.lean ====
module

public import proofs.«01_k».proof.Defs
public import proofs.«01_k».proof.Proof.Gen.Retention
public import proofs.«01_k».proof.Proof.Gen.Retention.Frame
public import proofs.«01_k».proof.Proof.Gen.RetentionIdeal
public import proofs.«01_k».proof.Proof.Gen.RetentionIdeal.Frame
public import proofs.«01_k».proof.Proof.Gen.RetentionIdeal.Value
public import proofs.«01_k».proof.Proof.Gen.RetentionReferenceIdeal
public import proofs.«01_k».proof.Proof.Gen.RetentionReferenceIdeal.Run
public import proofs.«01_k».proof.Proof.Gen.Pre_swapped_and_finite
public import proofs.«01_k».proof.Proof.Gen.Experts
public import proofs.«01_k».proof.Proof.Gen.Experts.Flash
public import proofs.«01_k».proof.Proof.Gen.ExpertsIdeal
public import proofs.«01_k».proof.Proof.Gen.ExpertsIdeal.Flash
public import proofs.«01_k».proof.Proof.Gen.ExpertsReferenceIdeal
public import proofs.«01_k».proof.Proof.Gen.Pre_names_experts
public import proofs.«01_k».proof.Proof.Gen.FeedForward
public import proofs.«01_k».proof.Proof.Gen.FeedForward.Frame
public import proofs.«01_k».proof.Proof.Gen.FeedForwardIdeal
public import proofs.«01_k».proof.Proof.Gen.FeedForwardIdeal.Frame
public import proofs.«01_k».proof.Proof.Gen.FeedForwardReferenceIdeal
public import proofs.«01_k».proof.Proof.Gen.InProjection
public import proofs.«01_k».proof.Proof.Gen.InProjection.Frame
public import proofs.«01_k».proof.Proof.Gen.InProjectionIdeal
public import proofs.«01_k».proof.Proof.Gen.InProjectionIdeal.Frame
public import proofs.«01_k».proof.Proof.Gen.InProjectionReferenceIdeal
public import proofs.«01_k».proof.Proof.DenseClaims
public import proofs.«01_k».proof.Proof.DenseFrames
public import proofs.«01_k».proof.Proof.ExpertsClaims
public import proofs.«01_k».proof.Proof.RetentionClaims
public import Idealize.ShloMosaic.Adequacy
public import Idealize.ShloMosaic.Init

@[expose] public section

noncomputable section

namespace Cert.Proof

/-- Every claim of this certificate holds. -/
theorem claim : Cert.Claim :=
  ⟨Cert.Retention.Gen.facts, Cert.RetentionIdeal.Gen.facts, Cert.RetentionReferenceIdeal.Gen.facts,
    Cert.Experts.Gen.facts, Cert.ExpertsIdeal.Gen.facts, Cert.ExpertsReferenceIdeal.Gen.facts,
    Cert.FeedForward.Gen.facts, Cert.FeedForwardIdeal.Gen.facts, Cert.FeedForwardReferenceIdeal.Gen.facts,
    Cert.InProjection.Gen.facts, Cert.InProjectionIdeal.Gen.facts, Cert.InProjectionReferenceIdeal.Gen.facts,
    Cert.Pre_swapped_and_finite.Gen.facts, Cert.Pre_names_experts.Gen.facts,
    fun m ρ _ => Cert.Retention.Gen.frame m ρ,
    fun m ρ _ => Cert.RetentionIdeal.Gen.frame m ρ,
    fun m ρ _ => Cert.RetentionIdeal.Gen.frame m ρ,
    Cert.RetentionClaims.reference_frame, Cert.RetentionClaims.reference_frame_pre,
    Cert.ExpertsClaims.kernel_frame, Cert.ExpertsClaims.ideal_frame, Cert.ExpertsClaims.reference_frame, Cert.ExpertsClaims.reference_frame_named,
    fun m ρ _ => Cert.FeedForward.Gen.frame m ρ,
    fun m ρ _ => Cert.FeedForwardIdeal.Gen.frame m ρ,
    Cert.Dense.feedForwardReference_frame,
    fun m ρ _ => Cert.InProjection.Gen.frame m ρ,
    fun m ρ _ => Cert.InProjectionIdeal.Gen.frame m ρ,
    Cert.Dense.inProjectionReference_frame,
    trivial, Cert.RetentionClaims.retention, trivial, Cert.ExpertsClaims.experts, trivial, Cert.Dense.feedForward, trivial, Cert.Dense.inProjection⟩

end Cert.Proof

end
